-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x3584 : Shape := ⟨3, ![8, 1024, 3584]⟩
abbrev S3584x28672 : Shape := ⟨2, ![3584, 28672]⟩
abbrev S28672 : Shape := ⟨1, ![28672]⟩
abbrev S8192x3584 : Shape := ⟨2, ![8192, 3584]⟩
abbrev S1x28672 : Shape := ⟨2, ![1, 28672]⟩
abbrev S8192x1 : Shape := ⟨2, ![8192, 1]⟩
abbrev S8192x14336 : Shape := ⟨2, ![8192, 14336]⟩
abbrev S256x3584 : Shape := ⟨2, ![256, 3584]⟩
abbrev S3584x512 : Shape := ⟨2, ![3584, 512]⟩
abbrev S1x512 : Shape := ⟨2, ![1, 512]⟩
abbrev S256x1 : Shape := ⟨2, ![256, 1]⟩
abbrev S256x14336 : Shape := ⟨2, ![256, 14336]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S256x4x128 : Shape := ⟨3, ![256, 4, 128]⟩

abbrev nBuf : Space → Nat
  | .hbm => 10
  | .vmem => 20
  | .smem => 0
  | _ => 0

abbrev bufTy : (tb : Table) → Fin (tcTables nBuf tb) → BufTy
  | .hbm, ⟨0, _⟩ => ⟨S8x1024x3584, .bf16⟩
  | .hbm, ⟨1, _⟩ => ⟨S3584x28672, .fp8e4m3⟩
  | .hbm, ⟨2, _⟩ => ⟨S28672, .f32⟩
  | .hbm, ⟨3, _⟩ => ⟨S8192x3584, .bf16⟩
  | .hbm, ⟨4, _⟩ => ⟨S1x28672, .f32⟩
  | .hbm, ⟨5, _⟩ => ⟨S1x28672, .f32⟩
  | .hbm, ⟨6, _⟩ => ⟨S8192x1, .f32⟩
  | .hbm, ⟨7, _⟩ => ⟨S8192x14336, .fp8e4m3⟩
  | .hbm, ⟨8, _⟩ => ⟨S8192x3584, .fp8e4m3⟩
  | .hbm, ⟨9, _⟩ => ⟨S8192x1, .f32⟩
  | .local _ .vmem, ⟨0, _⟩ => ⟨S256x3584, .bf16⟩
  | .local _ .vmem, ⟨1, _⟩ => ⟨S256x3584, .bf16⟩
  | .local _ .vmem, ⟨2, _⟩ => ⟨S3584x512, .fp8e4m3⟩
  | .local _ .vmem, ⟨3, _⟩ => ⟨S3584x512, .fp8e4m3⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x1, .f32⟩
  | .local _ .vmem, ⟨11, _⟩ => ⟨S256x1, .f32⟩
  | .local _ .vmem, ⟨12, _⟩ => ⟨S256x14336, .fp8e4m3⟩
  | .local _ .vmem, ⟨13, _⟩ => ⟨S256x14336, .fp8e4m3⟩
  | .local _ .vmem, ⟨14, _⟩ => ⟨S256x3584, .fp8e4m3⟩
  | .local _ .vmem, ⟨15, _⟩ => ⟨S256x3584, .fp8e4m3⟩
  | .local _ .vmem, ⟨16, _⟩ => ⟨S256x1, .f32⟩
  | .local _ .vmem, ⟨17, _⟩ => ⟨S256x1, .f32⟩
  | .local _ .vmem, ⟨18, _⟩ => ⟨S256x14336, .f32⟩
  | .local _ .vmem, ⟨19, _⟩ => ⟨S256x128, .f32⟩
  | _, _ => ⟨S8x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 28], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : BitVec 32 := v26
  let v28 : Index := Scalar.indexCast v27
  ![0, v28.toNat]
def k0_cond2 (i : grid0.Coords) : BitVec 1 :=
  let arg1 : BitVec 32 := BitVec.ofNat 32 (i 1).val
  let c27_i32 : BitVec 32 := 27#32
  let v40 : BitVec 1 := Scalar.cmpi .eq arg1 c27_i32
  let v41 : BitVec 32 := Scalar.extui v40
  let c0_i32_19 : BitVec 32 := 0#32
  let v42 : BitVec 1 := Scalar.cmpi .ne v41 c0_i32_19
  v42

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg1 c28_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi arg1 c28_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x14336 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x3584 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x1024x3584 : Shape := ⟨3, ![8, 1024, 3584]⟩
abbrev S3584x28672 : Shape := ⟨2, ![3584, 28672]⟩
abbrev S28672 : Shape := ⟨1, ![28672]⟩
abbrev S8192x3584 : Shape := ⟨2, ![8192, 3584]⟩
abbrev S1x28672 : Shape := ⟨2, ![1, 28672]⟩
abbrev S8192x1 : Shape := ⟨2, ![8192, 1]⟩
abbrev S8192x14336 : Shape := ⟨2, ![8192, 14336]⟩
abbrev S8192 : Shape := ⟨1, ![8192]⟩
abbrev S8192x28672 : Shape := ⟨2, ![8192, 28672]⟩

abbrev nBuf : Space → Nat
  | .hbm => 9
  | .vmem => 7
  | .smem => 0
  | _ => 0

abbrev bufTy : (tb : Table) → Fin (tcTables nBuf tb) → BufTy
  | .hbm, ⟨0, _⟩ => ⟨S8x1024x3584, .bf16⟩
  | .hbm, ⟨1, _⟩ => ⟨S3584x28672, .fp8e4m3⟩
  | .hbm, ⟨2, _⟩ => ⟨S28672, .f32⟩
  | .hbm, ⟨3, _⟩ => ⟨S8192x3584, .bf16⟩
  | .hbm, ⟨4, _⟩ => ⟨S1x28672, .f32⟩
  | .hbm, ⟨5, _⟩ => ⟨S8192x1, .f32⟩
  | .hbm, ⟨6, _⟩ => ⟨S8192x14336, .fp8e4m3⟩
  | .hbm, ⟨7, _⟩ => ⟨S8192x3584, .fp8e4m3⟩
  | .hbm, ⟨8, _⟩ => ⟨S8192x1, .f32⟩
  | .local _ .vmem, ⟨0, _⟩ => ⟨S8192x3584, .bf16⟩
  | .local _ .vmem, ⟨1, _⟩ => ⟨S3584x28672, .fp8e4m3⟩
  | .local _ .vmem, ⟨2, _⟩ => ⟨S1x28672, .f32⟩
  | .local _ .vmem, ⟨3, _⟩ => ⟨S8192x1, .f32⟩
  | .local _ .vmem, ⟨4, _⟩ => ⟨S8192x14336, .fp8e4m3⟩
  | .local _ .vmem, ⟨5, _⟩ => ⟨S8192x3584, .fp8e4m3⟩
  | .local _ .vmem, ⟨6, _⟩ => ⟨S8192x1, .f32⟩
  | _, _ => ⟨S8x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x28672 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x28672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x14336 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- What the kernel's body does at one grid point, in its three cases (first column tile of a row block, a middle one, the last),
   stated over any staging memrefs: what every buffer holds afterwards is written as a payload of what was read. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), of the grid coordinates. -/
abbrev cond0_0 (i : grid0.Coords) : Prop := k0_cond1 i = 1#1
/-- It holds at the points ≡ 0 (mod 28) — by arithmetic of the point. -/
theorem hcond0_0 : ∀ t : Fin cfg0.N, cond0_0 (grid0.coords t) ↔ t.val % 28 = 0 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 28 = 0)

/-- The condition of the body's `scf.if` 1 (`k0_h2`), of the grid coordinates. -/
abbrev cond0_1 (i : grid0.Coords) : Prop := k0_cond2 i = 1#1
/-- It holds at the points ≡ 27 (mod 28) — by arithmetic of the point. -/
theorem hcond0_1 : ∀ t : Fin cfg0.N, cond0_1 (grid0.coords t) ↔ t.val % 28 = 27 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_1, k0_cond2, e0, e1]
    word_cmp
   : ∀ t : Fin grid0.N, cond0_1 (grid0.coords t) ↔ t.val % 28 = 27)

/-! ## Whole loads and stores of matrices -/

section Whole

variable {κ : Kind} {sp : Space} {e : EltTy} {p q : ℕ}

/-- A whole load of a buffer that holds `x` reads `x`. -/
theorem load_rep (v : View sig κ sp ⟨2, ![p, q]⟩ e) (x : (⟨2, ![p, q]⟩ : Shape).Idx → Elt F e)
    (inb : ∀ a, (![0, 0] : Fin 2 → ℕ) a + (![p, q] : Fin 2 → ℕ) a ≤ (⟨2, ![p, q]⟩ : Shape).size a) :
    v.readAt (Elt F) (Rect.unit (s := ⟨2, ![p, q]⟩) ![0, 0] ![p, q] inb).toLoadRect (v.rep x) = x :=
  View.readAt_rep_full v x inb

/-- A whole load of a buffer is its contents. -/
theorem load_whole (v : View sig κ sp ⟨2, ![p, q]⟩ e) (f : v.ty.Contents (Elt F))
    (inb : ∀ a, (![0, 0] : Fin 2 → ℕ) a + (![p, q] : Fin 2 → ℕ) a ≤ (⟨2, ![p, q]⟩ : Shape).size a) :
    v.readAt (Elt F) (Rect.unit (s := ⟨2, ![p, q]⟩) ![0, 0] ![p, q] inb).toLoadRect f = v.read (Elt F) f :=
  View.readAt_full v f inb

/-- A whole load after a whole store reads what was stored. -/
theorem load_stored (v : View sig κ sp ⟨2, ![p, q]⟩ e)
    (inb inb' : ∀ a, (![0, 0] : Fin 2 → ℕ) a + (![p, q] : Fin 2 → ℕ) a ≤ (⟨2, ![p, q]⟩ : Shape).size a)
    (w : (Rect.unit (s := ⟨2, ![p, q]⟩) ![0, 0] ![p, q] inb').shape.Idx → Elt F e) (L : List (View.Piece (Elt F) ⟨2, ![p, q]⟩ e)) :
    v.readCov (⟨Rect.unit (s := ⟨2, ![p, q]⟩) ![0, 0] ![p, q] inb', w⟩ :: L) (Rect.unit (s := ⟨2, ![p, q]⟩) ![0, 0] ![p, q] inb).toLoadRect = w :=
  View.readCov_full v inb inb' w L

/-- A buffer that held `x` holds `x` with a rectangle replaced after one store at that rectangle. -/
theorem stored_put (v : View sig κ sp ⟨2, ![p, q]⟩ e) (x : (⟨2, ![p, q]⟩ : Shape).Idx → Elt F e) {off size : Fin 2 → ℕ}
    (inb : ∀ a, off a + size a ≤ (⟨2, ![p, q]⟩ : Shape).size a)
    (w : (Rect.unit (s := ⟨2, ![p, q]⟩) off size inb).shape.Idx → Elt F e) :
    v.read (Elt F) (v.writes (Elt F) (v.rep x) [⟨Rect.unit (s := ⟨2, ![p, q]⟩) off size inb, w⟩]) = VecWindow.put (s := ⟨2, ![p, q]⟩) x off size w :=
  View.read_writes_rep_unit v x inb w rfl

end Whole

set_option maxHeartbeats 1600000 in
/-- The body at a row block's first column tile: the row block's codes and scales are stored, the running maximum starts from zero, and the tile of `h` goes into the scratch. -/
theorem run_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : cond0_0 i) (hc1 : ¬cond0_1 i)
    (x0 : Vec F S256x3584 .bf16) (x1 : Vec F S3584x512 .fp8e4m3) (x2 : Vec F S3584x512 .fp8e4m3) (x3 : Vec F S1x512 .f32) (x4 : Vec F S1x512 .f32) (y5 : Vec F S256x1 .f32) (y6 : Vec F S256x14336 .fp8e4m3) (h : Vec F S256x14336 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ (∃ d, owns (c : Thread nD τ) arg9 fullShare d) ∗ (∃ d, owns (c : Thread nD τ) arg10 fullShare d) ∗ owns (c : Thread nD τ) arg11 fullShare h ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (k0_pay10 (k0_pay6 x0)) ∗ owns (c : Thread nD τ) arg10 fullShare (k0_pay5 x0) ∗ owns (c : Thread nD τ) arg11 fullShare (VecWindow.put h (k0_off1 i) S256x512.size (k0_pay13 (k0_pay10 (k0_pay6 x0)) (k0_pay5 x0) x1 x2 x3 x4)) ∗ owns (c : Thread nD τ) arg12 fullShare (k0_pay1 (k0_pay14 (k0_pay10 (k0_pay6 x0)) (k0_pay5 x0) x1 x2 x3 x4) k0_pay11)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, H7, H8, ⟨%d9, H9⟩, ⟨%d10, H10⟩, H11, ⟨%d12, H12⟩, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · rw [← owns_eq_rep]; unfold owns; iexists _; isplitr
    swap; · iexact H9
    ipureintro
    try unfold run_A.sl.H9_1
    try unfold run_A.sl.r_1
    refine (View.read_writes_full _ _ _ _ _).trans ?_
    simp only [load_rep, load_stored, load_whole, stored_put, View.read_rep]
  isplitl [H10]
  · rw [← owns_eq_rep]; unfold owns; iexists _; isplitr
    swap; · iexact H10
    ipureintro
    try unfold run_A.sl.H10_1
    try unfold run_A.sl.r
    refine (View.read_writes_full _ _ _ _ _).trans ?_
    simp only [load_rep, load_stored, load_whole, stored_put, View.read_rep]
  isplitl [H11]
  · rw [← owns_eq_rep]; unfold owns; iexists _; isplitr
    swap; · iexact H11
    ipureintro
    try unfold run_A.sl.v3
    try unfold run_A.sl.v5
    try unfold run_A.sl.H9_1
    try unfold run_A.sl.H10_1
    try unfold run_A.sl.r
    try unfold run_A.sl.r_1
    try unfold run_A.sl.H11_1
    simp only [load_rep, load_stored, View.read_rep, stored_put]
  · rw [← owns_eq_rep]; unfold owns; iexists _; isplitr
    swap; · iexact H12
    ipureintro
    try unfold run_A.sl.v35
    try unfold run_A.sl.H12_2
    try unfold run_A.sl.r_2
    try unfold run_A.sl.v3
    try unfold run_A.sl.v5
    try unfold run_A.sl.H9_1
    try unfold run_A.sl.H10_1
    try unfold run_A.sl.H12_1
    try unfold run_A.sl.r
    try unfold run_A.sl.r_1
    refine (View.read_writes_full _ _ _ _ _).trans ?_
    simp only [load_rep, load_stored, load_whole, stored_put, View.read_rep]

set_option maxHeartbeats 1600000 in
/-- The body at a middle column tile: only the two scratch buffers change. -/
theorem run_B (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : ¬cond0_0 i) (hc1 : ¬cond0_1 i)
    (x0 : Vec F S256x3584 .bf16) (x1 : Vec F S3584x512 .fp8e4m3) (x2 : Vec F S3584x512 .fp8e4m3) (x3 : Vec F S1x512 .f32) (x4 : Vec F S1x512 .f32) (y5 : Vec F S256x1 .f32) (y6 : Vec F S256x14336 .fp8e4m3) (y7 : Vec F S256x3584 .fp8e4m3) (y8 : Vec F S256x1 .f32) (h : Vec F S256x14336 .f32) (am : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare h ∗ owns (c : Thread nD τ) arg12 fullShare am
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (VecWindow.put h (k0_off1 i) S256x512.size (k0_pay13 y7 y8 x1 x2 x3 x4)) ∗ owns (c : Thread nD τ) arg12 fullShare (k0_pay1 (k0_pay14 y7 y8 x1 x2 x3 x4) am)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, H7, H8, H9, H10, H11, H12, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · rw [← owns_eq_rep]; unfold owns; iexists _; isplitr
    swap; · iexact H11
    ipureintro
    try unfold run_B.sl.H11_1
    simp only [load_rep, load_stored, View.read_rep, stored_put]
  · rw [← owns_eq_rep]; unfold owns; iexists _; isplitr
    swap; · iexact H12
    ipureintro
    try unfold run_B.sl.H12_1
    try unfold run_B.sl.r
    refine (View.read_writes_full _ _ _ _ _).trans ?_
    simp only [load_rep, load_stored, load_whole, stored_put, View.read_rep]

set_option maxHeartbeats 1600000 in
/-- The body at a row block's last column tile: the two scratch buffers change as at a middle tile, and the row block of `h` is quantised from them. -/
theorem run_C (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : ¬cond0_0 i) (hc1 : cond0_1 i)
    (x0 : Vec F S256x3584 .bf16) (x1 : Vec F S3584x512 .fp8e4m3) (x2 : Vec F S3584x512 .fp8e4m3) (x3 : Vec F S1x512 .f32) (x4 : Vec F S1x512 .f32) (y7 : Vec F S256x3584 .fp8e4m3) (y8 : Vec F S256x1 .f32) (h : Vec F S256x14336 .f32) (am : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare y7 ∗ owns (c : Thread nD τ) arg10 fullShare y8 ∗ owns (c : Thread nD τ) arg11 fullShare h ∗ owns (c : Thread nD τ) arg12 fullShare am
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8 (k0_pay1 (k0_pay14 y7 y8 x1 x2 x3 x4) am)) ∗ owns (c : Thread nD τ) arg8 fullShare (k0_pay2 (k0_pay9 (k0_pay1 (k0_pay14 y7 y8 x1 x2 x3 x4) am) (VecWindow.put h (k0_off1 i) S256x512.size (k0_pay13 y7 y8 x1 x2 x3 x4))) (Scalar.ofBits .f32 0xC3E00000#32) (Scalar.ofBits .f32 0x43E00000#32)) ∗ owns (c : Thread nD τ) arg9 fullShare y7 ∗ owns (c : Thread nD τ) arg10 fullShare y8 ∗ owns (c : Thread nD τ) arg11 fullShare (VecWindow.put h (k0_off1 i) S256x512.size (k0_pay13 y7 y8 x1 x2 x3 x4)) ∗ owns (c : Thread nD τ) arg12 fullShare (k0_pay1 (k0_pay14 y7 y8 x1 x2 x3 x4) am)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, ⟨%d7, H7⟩, ⟨%d8, H8⟩, H9, H10, H11, H12, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · rw [← owns_eq_rep]; unfold owns; iexists _; isplitr
    swap; · iexact H7
    ipureintro
    try unfold run_C.sl.v43
    try unfold run_C.sl.H12_1
    try unfold run_C.sl.r
    refine (View.read_writes_full _ _ _ _ _).trans ?_
    simp only [load_rep, load_stored, load_whole, stored_put, View.read_rep]
  isplitl [H8]
  · rw [← owns_eq_rep]; unfold owns; iexists _; isplitr
    swap; · iexact H8
    ipureintro
    try unfold run_C.sl.r_1
    try unfold run_C.sl.cst_35
    try unfold run_C.sl.cst_36
    try unfold run_C.sl.v43
    try unfold run_C.sl.H11_1
    try unfold run_C.sl.H12_1
    try unfold run_C.sl.r
    refine (View.read_writes_full _ _ _ _ _).trans ?_
    simp only [load_rep, load_stored, load_whole, stored_put, View.read_rep]
  isplitl [H9]
  · iexact H9
  isplitl [H10]
  · iexact H10
  isplitl [H11]
  · rw [← owns_eq_rep]; unfold owns; iexists _; isplitr
    swap; · iexact H11
    ipureintro
    try unfold run_C.sl.H11_1
    simp only [load_rep, load_stored, View.read_rep, stored_put]
  · rw [← owns_eq_rep]; unfold owns; iexists _; isplitr
    swap; · iexact H12
    ipureintro
    try unfold run_C.sl.H12_1
    try unfold run_C.sl.r
    refine (View.read_writes_full _ _ _ _ _).trans ?_
    simp only [load_rep, load_stored, load_whole, stored_put, View.read_rep]

end Cert.Kernel.Gen

end
-- ==== Proof.KernelFrame.lean ====
/- The kernel's run, every buffer named at every grid point: within a row block the codes and scales of the block stay in their
   output buffers, the scratch holds the tiles of `h` so far and the running maximum, and the last column tile quantises them.
   From this, the frame claim and what each output array ends as. -/
module

public import proofs.«01_k».proof.Proof.KernelRuns
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

theorem N896 : cfg0.N = 896 := N_0

/-- The grid's point at position `n`. -/
def pt (n : ℕ) : Fin cfg0.N := ⟨n % 896, by rw [N896]; exact Nat.mod_lt _ (by decide)⟩

theorem pt_val (t : Fin cfg0.N) : pt t.val = t :=
  Fin.ext (Nat.mod_eq_of_lt (lt_of_lt_of_eq t.isLt N896))

/-- The codes of row block `r` of `x`, -/
def XC (c : Dev nD) (r : ℕ) : Vec F S256x3584 .fp8e4m3 := k0_pay10 (k0_pay6 (iblk m c 0 (pt (28 * r))))
/-- and its scales. -/
def XS (c : Dev nD) (r : ℕ) : Vec F S256x1 .f32 := k0_pay5 (iblk m c 0 (pt (28 * r)))
/-- The tile of `h` at row block `r`, column tile `j`. -/
def HT (c : Dev nD) (r j : ℕ) : Vec F S256x512 .f32 :=
  k0_pay13 (XC m c r) (XS m c r) (iblk m c 1 (pt (28 * r + j))) (iblk m c 2 (pt (28 * r + j))) (iblk m c 3 (pt (28 * r + j))) (iblk m c 4 (pt (28 * r + j)))
/-- Its absolute values' maxima, lane by lane. -/
def AT (c : Dev nD) (r j : ℕ) : FVec F S256x128 .f32 :=
  k0_pay14 (XC m c r) (XS m c r) (iblk m c 1 (pt (28 * r + j))) (iblk m c 2 (pt (28 * r + j))) (iblk m c 3 (pt (28 * r + j))) (iblk m c 4 (pt (28 * r + j)))
/-- The running maxima of row block `r` after `n` column tiles. -/
def AM (c : Dev nD) (r : ℕ) : ℕ → FVec F S256x128 .f32
  | 0 => k0_pay11
  | n + 1 => k0_pay1 (AT m c r n) (AM c r n)
/-- Row block `r` of `h`, whole: its column tiles side by side. -/
def HV (c : Dev nD) (r : ℕ) : Vec F S256x14336 .f32 := fun y =>
  HT m c r ((y 1).val / 512) (fun a => match a with
    | ⟨0, _⟩ => ⟨(y 0).val, (y 0).isLt⟩
    | ⟨1, _⟩ => ⟨(y 1).val % 512, Nat.mod_lt _ (by decide)⟩)
/-- The scales of row block `r` of `h`, -/
def OS (c : Dev nD) (r : ℕ) : Vec F S256x1 .f32 := k0_pay8 (AM m c r 28)
/-- and its codes. -/
def OC (c : Dev nD) (r : ℕ) : Vec F S256x14336 .fp8e4m3 :=
  k0_pay2 (k0_pay9 (AM m c r 28) (HV m c r)) (Scalar.ofBits .f32 0xC3E00000#32) (Scalar.ofBits .f32 0x43E00000#32)

/-- The tile's columns start at 512 times the column tile. -/
theorem off1_eq (t : Fin cfg0.N) : k0_off1 (grid0.coords t) = ![0, 512 * (t.val % 28)] := by
  have e1 : (grid0.coords t 1).val = t.val / 1 % 28 := Pipeline.Grid.coords_val t 1 (by decide) rfl
  have key : ∀ j : Fin 28, (fun j : ℕ => ![(0 : ℕ), (Scalar.indexCast (Scalar.muli (BitVec.ofNat 32 j) 512#32) : Index).toNat]) j.val = ![0, 512 * j.val] := by
    decide +kernel
  have h := key ⟨t.val % 28, Nat.mod_lt _ (by decide)⟩
  unfold k0_off1
  rw [e1, Nat.div_one]
  exact h

/-- Storing the tile at column tile `j` extends the columns known from `512 j` to `512 (j + 1)`. -/
theorem put_known (c : Dev nD) (t : Fin cfg0.N) (d : Vec F S256x14336 .f32)
    (hd : ∀ y : S256x14336.Idx, (y 1).val < 512 * (t.val % 28) → d y = HV m c (t.val / 28) y) (y : S256x14336.Idx)
    (hy : (y 1).val < 512 * (t.val % 28 + 1)) :
    VecWindow.put d (k0_off1 (grid0.coords t)) S256x512.size (HT m c (t.val / 28) (t.val % 28)) y = HV m c (t.val / 28) y := by
  rw [off1_eq]
  unfold VecWindow.put
  by_cases hc : 512 * (t.val % 28) ≤ (y 1).val
  · have h : ∀ a : Fin 2, (![0, 512 * (t.val % 28)] : Fin 2 → ℕ) a ≤ (y a).val ∧ (y a).val < (![0, 512 * (t.val % 28)] : Fin 2 → ℕ) a + S256x512.size a := by
      intro a
      match a with
      | ⟨0, _⟩ => exact ⟨Nat.zero_le _, by have := (y 0).isLt; show (y 0).val < 0 + 256; exact lt_of_lt_of_eq this rfl⟩
      | ⟨1, _⟩ => exact ⟨hc, by show (y 1).val < 512 * (t.val % 28) + 512; omega⟩
    rw [dif_pos h]
    unfold HV
    have e : t.val % 28 = (y 1).val / 512 := by omega
    have ey : (Rect.unitLocal (s := S256x14336) (off := ![0, 512 * (t.val % 28)]) (size := S256x512.size) y h)
        = (fun a => match a with
          | ⟨0, _⟩ => ⟨(y 0).val, (y 0).isLt⟩
          | ⟨1, _⟩ => ⟨(y 1).val % 512, Nat.mod_lt _ (by decide)⟩ : S256x512.Idx) := by
      funext a
      apply Fin.ext
      match a with
      | ⟨0, _⟩ => show (Rect.unitLocal (s := S256x14336) y h _).val = (y 0).val; rw [Rect.unitLocal_val]; rfl
      | ⟨1, _⟩ =>
        show (Rect.unitLocal (s := S256x14336) y h _).val = (y 1).val % 512
        rw [Rect.unitLocal_val]; show (y 1).val - 512 * (t.val % 28) = _; omega
    rw [ey, e]
  · rw [dif_neg (fun h => hc (h 1).1)]
    exact hd y (by omega)

/-- At the last column tile every column is known. -/
theorem put_all (c : Dev nD) (t : Fin cfg0.N) (h1 : t.val % 28 = 27) (d : Vec F S256x14336 .f32)
    (hd : ∀ y : S256x14336.Idx, (y 1).val < 512 * (t.val % 28) → d y = HV m c (t.val / 28) y) :
    VecWindow.put d (k0_off1 (grid0.coords t)) S256x512.size (HT m c (t.val / 28) (t.val % 28)) = HV m c (t.val / 28) := by
  funext y
  exact put_known m c t d hd y (by have : (y 1).val < 14336 := (y 1).isLt; omega)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The outputs of `h` are stored at the last column tile only, -/
theorem idle0_h (t : Fin cfg0.N) : cfg0.idle 5 (grid0.coords t) = !decide (t.val % 28 = 27) ∧ cfg0.idle 6 (grid0.coords t) = !decide (t.val % 28 = 27) := by
  have h := hcond0_1 t
  by_cases h1 : t.val % 28 = 27
  · have e := h.mpr h1
    exact ⟨by show (!(k0_cond2 (grid0.coords t) == 1#1)) = _; rw [e, decide_eq_true h1]; rfl, by show (!(k0_cond2 (grid0.coords t) == 1#1)) = _; rw [e, decide_eq_true h1]; rfl⟩
  · have e : ¬ k0_cond2 (grid0.coords t) = 1#1 := fun e => h1 (h.mp e)
    have e' : (k0_cond2 (grid0.coords t) == 1#1) = false := by simpa using e
    exact ⟨by show (!(k0_cond2 (grid0.coords t) == 1#1)) = _; rw [e', decide_eq_false h1], by show (!(k0_cond2 (grid0.coords t) == 1#1)) = _; rw [e', decide_eq_false h1]⟩
/-- and those of `x` at the first. -/
theorem idle0_x (t : Fin cfg0.N) : cfg0.idle 7 (grid0.coords t) = !decide (t.val % 28 = 0) ∧ cfg0.idle 8 (grid0.coords t) = !decide (t.val % 28 = 0) := by
  have h := hcond0_0 t
  by_cases h1 : t.val % 28 = 0
  · have e := h.mpr h1
    exact ⟨by show (!(k0_cond1 (grid0.coords t) == 1#1)) = _; rw [e, decide_eq_true h1]; rfl, by show (!(k0_cond1 (grid0.coords t) == 1#1)) = _; rw [e, decide_eq_true h1]; rfl⟩
  · have e : ¬ k0_cond1 (grid0.coords t) = 1#1 := fun e => h1 (h.mp e)
    have e' : (k0_cond1 (grid0.coords t) == 1#1) = false := by simpa using e
    exact ⟨by show (!(k0_cond1 (grid0.coords t) == 1#1)) = _; rw [e', decide_eq_false h1], by show (!(k0_cond1 (grid0.coords t) == 1#1)) = _; rw [e', decide_eq_false h1]⟩

theorem flush_eq {w : Fin cfg0.W} (h : ∀ t : Fin cfg0.N, (cfg0.win w).flush t = true ↔ t.val % 28 = 27) (t : Fin cfg0.N) :
    (cfg0.win w).flush t = decide (t.val % 28 = 27) := by
  by_cases h1 : t.val % 28 = 27
  · rw [decide_eq_true h1]; exact (h t).mpr h1
  · rw [decide_eq_false h1]; exact Bool.eq_false_iff.mpr fun e => h1 ((h t).mp e)

/-- An output stored at the first column tile and written back at the last holds nothing of the body's exactly when a row block starts. -/
theorem fresh_x (w : Fin cfg0.W) (hi : ∀ t : Fin cfg0.N, cfg0.idle w (grid0.coords t) = !decide (t.val % 28 = 0))
    (hf : ∀ t : Fin cfg0.N, (cfg0.win w).flush t = true ↔ t.val % 28 = 27) (t : Fin cfg0.N) :
    cfg0.fresh w t.val = decide (t.val % 28 = 0) := by
  refine cfg0.fresh_tab w (fun n => decide (n % 28 = 0)) rfl (fun t => ?_) t.val (Nat.le_of_lt t.isLt)
  rw [flush_eq hf t, show cfg0.idle w (cfg0.grid.coords t) = _ from hi t]
  by_cases h1 : t.val % 28 = 27
  · rw [decide_eq_true h1, decide_eq_true (show (t.val + 1) % 28 = 0 by omega), Bool.true_or]
  · rw [decide_eq_false h1, decide_eq_false (show ¬(t.val + 1) % 28 = 0 by omega), Bool.false_or, Bool.not_and_self]

/-! ## The proof data -/

/-- Each window's current staging memref at point `t`. -/
abbrev ms0_0 (t : Fin cfg0.N) : Memref sig .tc .vmem S256x3584 .bf16 := win0_0.stage (cfg0.slots t 0)
abbrev ms0_1 (t : Fin cfg0.N) : Memref sig .tc .vmem S3584x512 .fp8e4m3 := win0_1.stage (cfg0.slots t 1)
abbrev ms0_2 (t : Fin cfg0.N) : Memref sig .tc .vmem S3584x512 .fp8e4m3 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S1x512 .f32 := win0_4.stage (cfg0.slots t 4)
abbrev ms0_5 (t : Fin cfg0.N) : Memref sig .tc .vmem S256x1 .f32 := win0_5.stage (cfg0.slots t 5)
abbrev ms0_6 (t : Fin cfg0.N) : Memref sig .tc .vmem S256x14336 .fp8e4m3 := win0_6.stage (cfg0.slots t 6)
abbrev ms0_7 (t : Fin cfg0.N) : Memref sig .tc .vmem S256x3584 .fp8e4m3 := win0_7.stage (cfg0.slots t 7)
abbrev ms0_8 (t : Fin cfg0.N) : Memref sig .tc .vmem S256x1 .f32 := win0_8.stage (cfg0.slots t 8)
/-- The scratch of `h`, and of the running maxima. -/
abbrev scM0_0 : Memref sig .tc .vmem S256x14336 .f32 := Memref.whole cc0_scratch0
abbrev scM0_1 : Memref sig .tc .vmem S256x128 .f32 := Memref.whole cc0_scratch1

/-- The region's own invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant at position `n` inside a row block: the first `512 (n mod 28)` columns of the `h` scratch are the block's, and the running
    maxima are those of the tiles so far. -/
def PhiIn (c : Dev nD) (n : ℕ) : sProp 𝕄 :=
  iprop(iprop((∃ d, ⌜∀ y : S256x14336.Idx, (y 1).val < 512 * (n % 28) → d y = HV m c (n / 28) y⌝ ∗ owns (c : Thread nD τ) scM0_0 fullShare d)
    ∗ owns (c : Thread nD τ) scM0_1 fullShare (AM m c (n / 28) (n % 28))) ∗ (∃ r, prngReg c r))

/-- The invariant at position `n`: nothing known where a row block starts. -/
def PhiS (c : Dev nD) (n : ℕ) : sProp 𝕄 := if n % 28 = 0 then Pipeline.ΦA spec0 c else PhiIn m c n

/-- What every buffer holds after every point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OS m c (t.val / 28)
    | ⟨6, _⟩ => OC m c (t.val / 28)
    | ⟨7, _⟩ => XC m c (t.val / 28)
    | ⟨8, _⟩ => XS m c (t.val / 28)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = OS m c (t.val / 28) := by dsimp only [dats]
theorem after0_6 (c : Dev nD) (t : Fin cfg0.N) : (dats m 0 c).after 6 t = OC m c (t.val / 28) := by dsimp only [dats]
theorem after0_7 (c : Dev nD) (t : Fin cfg0.N) : (dats m 0 c).after 7 t = XC m c (t.val / 28) := by dsimp only [dats]
theorem after0_8 (c : Dev nD) (t : Fin cfg0.N) : (dats m 0 c).after 8 t = XS m c (t.val / 28) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first column tile of a row block, output 7's buffer holds what that tile stored. -/
theorem before0_7 (c : Dev nD) (t : Fin cfg0.N) (h0 : ¬t.val % 28 = 0) (d) : (dats m 0 c).before 7 t d = XC m c (t.val / 28) := by
  have hfr := fresh_x 7 (fun t => (idle0_x t).1) flush0_7 t
  rw [decide_eq_false h0] at hfr
  rw [(dats m 0 c).before_out_traj 7 rfl (fun _ _ => rfl) (fun s hs hi hf => ?_) t.val t rfl d, if_neg (by rw [hfr]; exact Bool.false_ne_true)]
  · rw [after0_7]; exact congrArg (XC m c) (show (t.val - 1) / 28 = t.val / 28 by omega)
  · have hs0 : ¬s.val % 28 = 0 := by
      intro e
      have := (idle0_x s).1
      rw [decide_eq_true e] at this
      exact Bool.false_ne_true (this.symm.trans hi)
    rw [after0_7, after0_7]; exact congrArg (XC m c) (show s.val / 28 = (s.val - 1) / 28 by omega)

/-- After the first column tile of a row block, output 8's buffer holds what that tile stored. -/
theorem before0_8 (c : Dev nD) (t : Fin cfg0.N) (h0 : ¬t.val % 28 = 0) (d) : (dats m 0 c).before 8 t d = XS m c (t.val / 28) := by
  have hfr := fresh_x 8 (fun t => (idle0_x t).2) flush0_8 t
  rw [decide_eq_false h0] at hfr
  rw [(dats m 0 c).before_out_traj 8 rfl (fun _ _ => rfl) (fun s hs hi hf => ?_) t.val t rfl d, if_neg (by rw [hfr]; exact Bool.false_ne_true)]
  · rw [after0_8]; exact congrArg (XS m c) (show (t.val - 1) / 28 = t.val / 28 by omega)
  · have hs0 : ¬s.val % 28 = 0 := by
      intro e
      have := (idle0_x s).2
      rw [decide_eq_true e] at this
      exact Bool.false_ne_true (this.symm.trans hi)
    rw [after0_8, after0_8]; exact congrArg (XS m c) (show s.val / 28 = (s.val - 1) / 28 by omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window the body stores into, or whose block is written back, is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

set_option maxHeartbeats 3200000 in
/-- The body at a row block's first column tile. -/
theorem sound_A (c : Dev nD) (t : Fin cfg0.N) (h0 : t.val % 28 = 0) (h1 : ¬t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = Pipeline.ΦA spec0 c from if_pos h0, show PhiS m c (t.val + 1) = PhiIn m c (t.val + 1) from if_neg (by omega), PhiA0_eq]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [Dat.leavesExact_idle (dats m 0 c) 5 t (by rw [show cfg0.idle 5 (cfg0.grid.coords t) = _ from (idle0_h t).1, decide_eq_false h1]; rfl) (by rw [flush_eq flush0_5 t, decide_eq_false h1])]
  rw [Dat.leavesExact_idle (dats m 0 c) 6 t (by rw [show cfg0.idle 6 (cfg0.grid.coords t) = _ from (idle0_h t).2, decide_eq_false h1]; rfl) (by rw [flush_eq flush0_6 t, decide_eq_false h1])]
  rw [leaves_live m c 7 t (by rw [(idle0_x t).1, decide_eq_true h0]; rfl), after0_7]
  rw [leaves_live m c 8 t (by rw [(idle0_x t).2, decide_eq_true h0]; rfl), after0_8]
  have et : pt (28 * (t.val / 28) + t.val % 28) = t := by rw [Nat.div_add_mod]; exact pt_val t
  have et0 : pt (28 * (t.val / 28)) = t := by rw [show 28 * (t.val / 28) = t.val by omega]; exact pt_val t
  have exc : XC m c (t.val / 28) = k0_pay10 (k0_pay6 (iblk m c 0 t)) := by unfold XC; rw [et0]
  have exs : XS m c (t.val / 28) = k0_pay5 (iblk m c 0 t) := by unfold XS; rw [et0]
  have eH : HT m c (t.val / 28) (t.val % 28) = k0_pay13 (k0_pay10 (k0_pay6 (iblk m c 0 t))) (k0_pay5 (iblk m c 0 t)) (iblk m c 1 t) (iblk m c 2 t) (iblk m c 3 t) (iblk m c 4 t) := by unfold HT; rw [et, exc, exs]
  have eA : AT m c (t.val / 28) (t.val % 28) = k0_pay14 (k0_pay10 (k0_pay6 (iblk m c 0 t))) (k0_pay5 (iblk m c 0 t)) (iblk m c 1 t) (iblk m c 2 t) (iblk m c 3 t) (iblk m c 4 t) := by unfold AT; rw [et, exc, exs]
  have eM : AM m c (t.val / 28) (t.val % 28 + 1) = k0_pay1 (k0_pay14 (k0_pay10 (k0_pay6 (iblk m c 0 t))) (k0_pay5 (iblk m c 0 t)) (iblk m c 1 t) (iblk m c 2 t) (iblk m c 3 t) (iblk m c 4 t)) k0_pay11 := by rw [← eA]; show k0_pay1 _ _ = _; rw [show AM m c (t.val / 28) (t.val % 28) = k0_pay11 from by rw [h0]; rfl]
  iintro ⟨⟨⟨⟨%d11, HS0⟩, ⟨%d12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) ((dats m 0 c).before 5 t d5) ((dats m 0 c).before 6 t d6) d11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexists _; iexact HS1
  iintro ⟨H0, H1, H2, H3, H4, H5, H6, H7, H8, HS0, HS1⟩
  rw [← eM, ← eH]
  rw [← exc, ← exs]
  isplitl [HS0 HS1 Hg]
  · isplitl [HS0 HS1]
    · isplitl [HS0]
      · iexists _; isplitr; swap; · iexact HS0
        ipureintro; intro y hy
        rw [show (t.val + 1) / 28 = t.val / 28 by omega]; rw [show (t.val + 1) % 28 = t.val % 28 + 1 by omega] at hy
        exact put_known m c t d11 (fun y hy => absurd hy (by rw [h0]; omega)) y hy
      · rw [show (t.val + 1) / 28 = t.val / 28 by omega, show (t.val + 1) % 28 = t.val % 28 + 1 by omega]; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 3200000 in
/-- The body at a row block's middle column tiles. -/
theorem sound_B (c : Dev nD) (t : Fin cfg0.N) (h0 : ¬t.val % 28 = 0) (h1 : ¬t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  simp only [before0_7 m c t h0, before0_8 m c t h0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = PhiIn m c t.val from if_neg h0, show PhiS m c (t.val + 1) = PhiIn m c (t.val + 1) from if_neg (by omega)]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [Dat.leavesExact_idle (dats m 0 c) 5 t (by rw [show cfg0.idle 5 (cfg0.grid.coords t) = _ from (idle0_h t).1, decide_eq_false h1]; rfl) (by rw [flush_eq flush0_5 t, decide_eq_false h1])]
  rw [Dat.leavesExact_idle (dats m 0 c) 6 t (by rw [show cfg0.idle 6 (cfg0.grid.coords t) = _ from (idle0_h t).2, decide_eq_false h1]; rfl) (by rw [flush_eq flush0_6 t, decide_eq_false h1])]
  rw [Dat.leavesExact_idle (dats m 0 c) 7 t (by rw [show cfg0.idle 7 (cfg0.grid.coords t) = _ from (idle0_x t).1, decide_eq_false h0]; rfl) (by rw [flush_eq flush0_7 t, decide_eq_false h1])]
  rw [Dat.leavesExact_idle (dats m 0 c) 8 t (by rw [show cfg0.idle 8 (cfg0.grid.coords t) = _ from (idle0_x t).2, decide_eq_false h0]; rfl) (by rw [flush_eq flush0_8 t, decide_eq_false h1])]
  simp only [before0_7 m c t h0, before0_8 m c t h0]
  have et : pt (28 * (t.val / 28) + t.val % 28) = t := by rw [Nat.div_add_mod]; exact pt_val t
  have eH : HT m c (t.val / 28) (t.val % 28) = k0_pay13 (XC m c (t.val / 28)) (XS m c (t.val / 28)) (iblk m c 1 t) (iblk m c 2 t) (iblk m c 3 t) (iblk m c 4 t) := by unfold HT; rw [et]
  have eA : AT m c (t.val / 28) (t.val % 28) = k0_pay14 (XC m c (t.val / 28)) (XS m c (t.val / 28)) (iblk m c 1 t) (iblk m c 2 t) (iblk m c 3 t) (iblk m c 4 t) := by unfold AT; rw [et]
  have eM : AM m c (t.val / 28) (t.val % 28 + 1) = k0_pay1 (k0_pay14 (XC m c (t.val / 28)) (XS m c (t.val / 28)) (iblk m c 1 t) (iblk m c 2 t) (iblk m c 3 t) (iblk m c 4 t)) (AM m c (t.val / 28) (t.val % 28)) := by rw [← eA]; rfl
  iintro ⟨⟨⟨⟨%d11, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) ((dats m 0 c).before 5 t d5) ((dats m 0 c).before 6 t d6) (XC m c (t.val / 28)) (XS m c (t.val / 28)) d11 (AM m c (t.val / 28) (t.val % 28)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  rw [← eM, ← eH]
  isplitl [HS0 HS1 Hg]
  · isplitl [HS0 HS1]
    · isplitl [HS0]
      · iexists _; isplitr; swap; · iexact HS0
        ipureintro; intro y hy
        rw [show (t.val + 1) / 28 = t.val / 28 by omega]; rw [show (t.val + 1) % 28 = t.val % 28 + 1 by omega] at hy
        exact put_known m c t d11 hd y hy
      · rw [show (t.val + 1) / 28 = t.val / 28 by omega, show (t.val + 1) % 28 = t.val % 28 + 1 by omega]; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 3200000 in
/-- The body at a row block's last column tile. -/
theorem sound_C (c : Dev nD) (t : Fin cfg0.N) (h0 : ¬t.val % 28 = 0) (h1 : t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  simp only [before0_7 m c t h0, before0_8 m c t h0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = PhiIn m c t.val from if_neg h0, show PhiS m c (t.val + 1) = Pipeline.ΦA spec0 c from if_pos (by omega), PhiA0_eq]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (by rw [(idle0_h t).1, decide_eq_true h1]; rfl), after0_5]
  rw [leaves_live m c 6 t (by rw [(idle0_h t).2, decide_eq_true h1]; rfl), after0_6]
  rw [leaves_flush m c 7 t (by rw [(idle0_x t).1, decide_eq_false h0]; rfl) (by rw [flush_eq flush0_7 t, decide_eq_true h1]), after0_7]
  rw [leaves_flush m c 8 t (by rw [(idle0_x t).2, decide_eq_false h0]; rfl) (by rw [flush_eq flush0_8 t, decide_eq_true h1]), after0_8]
  have et : pt (28 * (t.val / 28) + t.val % 28) = t := by rw [Nat.div_add_mod]; exact pt_val t
  have eH : HT m c (t.val / 28) (t.val % 28) = k0_pay13 (XC m c (t.val / 28)) (XS m c (t.val / 28)) (iblk m c 1 t) (iblk m c 2 t) (iblk m c 3 t) (iblk m c 4 t) := by unfold HT; rw [et]
  have eA : AT m c (t.val / 28) (t.val % 28) = k0_pay14 (XC m c (t.val / 28)) (XS m c (t.val / 28)) (iblk m c 1 t) (iblk m c 2 t) (iblk m c 3 t) (iblk m c 4 t) := by unfold AT; rw [et]
  have eM : AM m c (t.val / 28) (t.val % 28 + 1) = k0_pay1 (k0_pay14 (XC m c (t.val / 28)) (XS m c (t.val / 28)) (iblk m c 1 t) (iblk m c 2 t) (iblk m c 3 t) (iblk m c 4 t)) (AM m c (t.val / 28) (t.val % 28)) := by rw [← eA]; rfl
  iintro ⟨⟨⟨⟨%d11, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (XC m c (t.val / 28)) (XS m c (t.val / 28)) d11 (AM m c (t.val / 28) (t.val % 28)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  rw [← eM, ← eH]
  rw [put_all m c t h1 d11 hd]
  rw [show AM m c (t.val / 28) (t.val % 28 + 1) = AM m c (t.val / 28) 28 from by rw [h1]]
  isplitl [HS0 HS1 Hg]
  · isplitl [HS0 HS1]
    · isplitl [HS0]
      · iexists _; iexact HS0
      · iexists _; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 28 = 0
  · exact sound_A m c t h0 (by omega)
  · by_cases h1 : t.val % 28 = 27
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 from rfl, show PhiS m c 0 = Pipeline.ΦA spec0 c from if_pos rfl]

/-- and the invariant after the last is what the region hands back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    show PhiS m c (Fin.last cfg0.N).val = Pipeline.ΦA spec0 c from if_pos (by rw [Fin.val_last, N896])]

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.KernelIdealRuns.lean ====
/- What the kernel's body does at one grid point, in its three cases (first column tile of a row block, a middle one, the last),
   stated over any staging memrefs: what every buffer holds afterwards is written as a payload of what was read. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), of the grid coordinates. -/
abbrev cond0_0 (i : grid0.Coords) : Prop := k0_cond1 i = 1#1
/-- It holds at the points ≡ 0 (mod 28) — by arithmetic of the point. -/
theorem hcond0_0 : ∀ t : Fin cfg0.N, cond0_0 (grid0.coords t) ↔ t.val % 28 = 0 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_0, k0_cond1, e0, e1]
    word_cmp
   : ∀ t : Fin grid0.N, cond0_0 (grid0.coords t) ↔ t.val % 28 = 0)

/-- The condition of the body's `scf.if` 1 (`k0_h2`), of the grid coordinates. -/
abbrev cond0_1 (i : grid0.Coords) : Prop := k0_cond2 i = 1#1
/-- It holds at the points ≡ 27 (mod 28) — by arithmetic of the point. -/
theorem hcond0_1 : ∀ t : Fin cfg0.N, cond0_1 (grid0.coords t) ↔ t.val % 28 = 27 :=
  (fun t => by
    have ht : t.val < 896 := Nat.lt_of_lt_of_eq t.isLt N_0
    have e0 : (grid0.coords t 0).val = t.val / 28 % 32 := Pipeline.Grid.coords_val t 0 (by decide) rfl
    have e1 : (grid0.coords t 1).val = t.val / 1 % 28 := Pipeline.Grid.coords_val t 1 (by decide) rfl
    simp only [cond0_1, k0_cond2, e0, e1]
    word_cmp
   : ∀ t : Fin grid0.N, cond0_1 (grid0.coords t) ↔ t.val % 28 = 27)

/-! ## Whole loads and stores of matrices -/

section Whole

variable {κ : Kind} {sp : Space} {e : EltTy} {p q : ℕ}

/-- A whole load of a buffer that holds `x` reads `x`. -/
theorem load_rep (v : View sig κ sp ⟨2, ![p, q]⟩ e) (x : (⟨2, ![p, q]⟩ : Shape).Idx → Elt F e)
    (inb : ∀ a, (![0, 0] : Fin 2 → ℕ) a + (![p, q] : Fin 2 → ℕ) a ≤ (⟨2, ![p, q]⟩ : Shape).size a) :
    v.readAt (Elt F) (Rect.unit (s := ⟨2, ![p, q]⟩) ![0, 0] ![p, q] inb).toLoadRect (v.rep x) = x :=
  View.readAt_rep_full v x inb

/-- A whole load of a buffer is its contents. -/
theorem load_whole (v : View sig κ sp ⟨2, ![p, q]⟩ e) (f : v.ty.Contents (Elt F))
    (inb : ∀ a, (![0, 0] : Fin 2 → ℕ) a + (![p, q] : Fin 2 → ℕ) a ≤ (⟨2, ![p, q]⟩ : Shape).size a) :
    v.readAt (Elt F) (Rect.unit (s := ⟨2, ![p, q]⟩) ![0, 0] ![p, q] inb).toLoadRect f = v.read (Elt F) f :=
  View.readAt_full v f inb

/-- A whole load after a whole store reads what was stored. -/
theorem load_stored (v : View sig κ sp ⟨2, ![p, q]⟩ e)
    (inb inb' : ∀ a, (![0, 0] : Fin 2 → ℕ) a + (![p, q] : Fin 2 → ℕ) a ≤ (⟨2, ![p, q]⟩ : Shape).size a)
    (w : (Rect.unit (s := ⟨2, ![p, q]⟩) ![0, 0] ![p, q] inb').shape.Idx → Elt F e) (L : List (View.Piece (Elt F) ⟨2, ![p, q]⟩ e)) :
    v.readCov (⟨Rect.unit (s := ⟨2, ![p, q]⟩) ![0, 0] ![p, q] inb', w⟩ :: L) (Rect.unit (s := ⟨2, ![p, q]⟩) ![0, 0] ![p, q] inb).toLoadRect = w :=
  View.readCov_full v inb inb' w L

/-- A buffer that held `x` holds `x` with a rectangle replaced after one store at that rectangle. -/
theorem stored_put (v : View sig κ sp ⟨2, ![p, q]⟩ e) (x : (⟨2, ![p, q]⟩ : Shape).Idx → Elt F e) {off size : Fin 2 → ℕ}
    (inb : ∀ a, off a + size a ≤ (⟨2, ![p, q]⟩ : Shape).size a)
    (w : (Rect.unit (s := ⟨2, ![p, q]⟩) off size inb).shape.Idx → Elt F e) :
    v.read (Elt F) (v.writes (Elt F) (v.rep x) [⟨Rect.unit (s := ⟨2, ![p, q]⟩) off size inb, w⟩]) = VecWindow.put (s := ⟨2, ![p, q]⟩) x off size w :=
  View.read_writes_rep_unit v x inb w rfl

end Whole

set_option maxHeartbeats 1600000 in
/-- The body at a row block's first column tile: the row block's codes and scales are stored, the running maximum starts from zero, and the tile of `h` goes into the scratch. -/
theorem run_A (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : cond0_0 i) (hc1 : ¬cond0_1 i)
    (x0 : Vec F S256x3584 .bf16) (x1 : Vec F S3584x512 .fp8e4m3) (x2 : Vec F S3584x512 .fp8e4m3) (x3 : Vec F S1x512 .f32) (x4 : Vec F S1x512 .f32) (y5 : Vec F S256x1 .f32) (y6 : Vec F S256x14336 .fp8e4m3) (h : Vec F S256x14336 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ (∃ d, owns (c : Thread nD τ) arg9 fullShare d) ∗ (∃ d, owns (c : Thread nD τ) arg10 fullShare d) ∗ owns (c : Thread nD τ) arg11 fullShare h ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (k0_pay10 (k0_pay6 x0)) ∗ owns (c : Thread nD τ) arg10 fullShare (k0_pay5 x0) ∗ owns (c : Thread nD τ) arg11 fullShare (VecWindow.put h (k0_off1 i) S256x512.size (k0_pay13 (k0_pay10 (k0_pay6 x0)) (k0_pay5 x0) x1 x2 x3 x4)) ∗ owns (c : Thread nD τ) arg12 fullShare (k0_pay1 (k0_pay14 (k0_pay10 (k0_pay6 x0)) (k0_pay5 x0) x1 x2 x3 x4) k0_pay11)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, H7, H8, ⟨%d9, H9⟩, ⟨%d10, H10⟩, H11, ⟨%d12, H12⟩, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · rw [← owns_eq_rep]; unfold owns; iexists _; isplitr
    swap; · iexact H9
    ipureintro
    try unfold run_A.sl.H9_1
    try unfold run_A.sl.r_1
    refine (View.read_writes_full _ _ _ _ _).trans ?_
    simp only [load_rep, load_stored, load_whole, stored_put, View.read_rep]
  isplitl [H10]
  · rw [← owns_eq_rep]; unfold owns; iexists _; isplitr
    swap; · iexact H10
    ipureintro
    try unfold run_A.sl.H10_1
    try unfold run_A.sl.r
    refine (View.read_writes_full _ _ _ _ _).trans ?_
    simp only [load_rep, load_stored, load_whole, stored_put, View.read_rep]
  isplitl [H11]
  · rw [← owns_eq_rep]; unfold owns; iexists _; isplitr
    swap; · iexact H11
    ipureintro
    try unfold run_A.sl.v3
    try unfold run_A.sl.v5
    try unfold run_A.sl.H9_1
    try unfold run_A.sl.H10_1
    try unfold run_A.sl.r
    try unfold run_A.sl.r_1
    try unfold run_A.sl.H11_1
    simp only [load_rep, load_stored, View.read_rep, stored_put]
  · rw [← owns_eq_rep]; unfold owns; iexists _; isplitr
    swap; · iexact H12
    ipureintro
    try unfold run_A.sl.v35
    try unfold run_A.sl.H12_2
    try unfold run_A.sl.r_2
    try unfold run_A.sl.v3
    try unfold run_A.sl.v5
    try unfold run_A.sl.H9_1
    try unfold run_A.sl.H10_1
    try unfold run_A.sl.H12_1
    try unfold run_A.sl.r
    try unfold run_A.sl.r_1
    refine (View.read_writes_full _ _ _ _ _).trans ?_
    simp only [load_rep, load_stored, load_whole, stored_put, View.read_rep]

set_option maxHeartbeats 1600000 in
/-- The body at a middle column tile: only the two scratch buffers change. -/
theorem run_B (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : ¬cond0_0 i) (hc1 : ¬cond0_1 i)
    (x0 : Vec F S256x3584 .bf16) (x1 : Vec F S3584x512 .fp8e4m3) (x2 : Vec F S3584x512 .fp8e4m3) (x3 : Vec F S1x512 .f32) (x4 : Vec F S1x512 .f32) (y5 : Vec F S256x1 .f32) (y6 : Vec F S256x14336 .fp8e4m3) (y7 : Vec F S256x3584 .fp8e4m3) (y8 : Vec F S256x1 .f32) (h : Vec F S256x14336 .f32) (am : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare h ∗ owns (c : Thread nD τ) arg12 fullShare am
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare (VecWindow.put h (k0_off1 i) S256x512.size (k0_pay13 y7 y8 x1 x2 x3 x4)) ∗ owns (c : Thread nD τ) arg12 fullShare (k0_pay1 (k0_pay14 y7 y8 x1 x2 x3 x4) am)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, H7, H8, H9, H10, H11, H12, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · rw [← owns_eq_rep]; unfold owns; iexists _; isplitr
    swap; · iexact H11
    ipureintro
    try unfold run_B.sl.H11_1
    simp only [load_rep, load_stored, View.read_rep, stored_put]
  · rw [← owns_eq_rep]; unfold owns; iexists _; isplitr
    swap; · iexact H12
    ipureintro
    try unfold run_B.sl.H12_1
    try unfold run_B.sl.r
    refine (View.read_writes_full _ _ _ _ _).trans ?_
    simp only [load_rep, load_stored, load_whole, stored_put, View.read_rep]

set_option maxHeartbeats 1600000 in
/-- The body at a row block's last column tile: the two scratch buffers change as at a middle tile, and the row block of `h` is quantised from them. -/
theorem run_C (c : Dev nD) (i : grid0.Coords) (arg2 : Memref sig .tc .vmem S256x3584 .bf16) (harg2 : arg2.IsWhole) (arg3 : Memref sig .tc .vmem S3584x512 .fp8e4m3) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1 .f32) (harg7 : arg7.IsWhole) (arg8 : Memref sig .tc .vmem S256x14336 .fp8e4m3) (harg8 : arg8.IsWhole) (arg9 : Memref sig .tc .vmem S256x3584 .fp8e4m3) (harg9 : arg9.IsWhole) (arg10 : Memref sig .tc .vmem S256x1 .f32) (harg10 : arg10.IsWhole) (arg11 : Memref sig .tc .vmem S256x14336 .f32) (harg11 : arg11.IsWhole) (arg12 : Memref sig .tc .vmem S256x128 .f32) (harg12 : arg12.IsWhole) (hc0 : ¬cond0_0 i) (hc1 : cond0_1 i)
    (x0 : Vec F S256x3584 .bf16) (x1 : Vec F S3584x512 .fp8e4m3) (x2 : Vec F S3584x512 .fp8e4m3) (x3 : Vec F S1x512 .f32) (x4 : Vec F S1x512 .f32) (y7 : Vec F S256x3584 .fp8e4m3) (y8 : Vec F S256x1 .f32) (h : Vec F S256x14336 .f32) (am : Vec F S256x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare y7 ∗ owns (c : Thread nD τ) arg10 fullShare y8 ∗ owns (c : Thread nD τ) arg11 fullShare h ∗ owns (c : Thread nD τ) arg12 fullShare am
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay8 (k0_pay1 (k0_pay14 y7 y8 x1 x2 x3 x4) am)) ∗ owns (c : Thread nD τ) arg8 fullShare (k0_pay2 (k0_pay9 (k0_pay1 (k0_pay14 y7 y8 x1 x2 x3 x4) am) (VecWindow.put h (k0_off1 i) S256x512.size (k0_pay13 y7 y8 x1 x2 x3 x4))) (Scalar.ofBits .f32 0xC3E00000#32) (Scalar.ofBits .f32 0x43E00000#32)) ∗ owns (c : Thread nD τ) arg9 fullShare y7 ∗ owns (c : Thread nD τ) arg10 fullShare y8 ∗ owns (c : Thread nD τ) arg11 fullShare (VecWindow.put h (k0_off1 i) S256x512.size (k0_pay13 y7 y8 x1 x2 x3 x4)) ∗ owns (c : Thread nD τ) arg12 fullShare (k0_pay1 (k0_pay14 y7 y8 x1 x2 x3 x4) am)) -∗ K ⟨⟩))
      ⊢ wp frame (wpE (defs₀ (F := F)) Variants.none c none) E (cc0_swiglu_up_fp8 i arg2 harg2 arg3 harg3 arg4 harg4 arg5 harg5 arg6 harg6 arg7 harg7 arg8 harg8 arg9 harg9 arg10 harg10 arg11 harg11 arg12 harg12) K := by
  simp only [cc0_swiglu_up_fp8_eq_skeleton]; unfold cc0_swiglu_up_fp8_skel
  simp only [k0_part1_eq_skeleton, k0_part2_eq_skeleton, k0_part3_eq_skeleton]
  simp only [owns_eq_rep]
  iintro ⟨H2, H3, H4, H5, H6, ⟨%d7, H7⟩, ⟨%d8, H8⟩, H9, H10, H11, H12, Hk⟩
  sl_exec (disch := first | sl_exact hc0 | sl_exact hc1)
  sl_step
  iapply Hk
  isplitl [H2]
  · iexact H2
  isplitl [H3]
  · iexact H3
  isplitl [H4]
  · iexact H4
  isplitl [H5]
  · iexact H5
  isplitl [H6]
  · iexact H6
  isplitl [H7]
  · rw [← owns_eq_rep]; unfold owns; iexists _; isplitr
    swap; · iexact H7
    ipureintro
    try unfold run_C.sl.v43
    try unfold run_C.sl.H12_1
    try unfold run_C.sl.r
    refine (View.read_writes_full _ _ _ _ _).trans ?_
    simp only [load_rep, load_stored, load_whole, stored_put, View.read_rep]
  isplitl [H8]
  · rw [← owns_eq_rep]; unfold owns; iexists _; isplitr
    swap; · iexact H8
    ipureintro
    try unfold run_C.sl.r_1
    try unfold run_C.sl.cst_35
    try unfold run_C.sl.cst_36
    try unfold run_C.sl.v43
    try unfold run_C.sl.H11_1
    try unfold run_C.sl.H12_1
    try unfold run_C.sl.r
    refine (View.read_writes_full _ _ _ _ _).trans ?_
    simp only [load_rep, load_stored, load_whole, stored_put, View.read_rep]
  isplitl [H9]
  · iexact H9
  isplitl [H10]
  · iexact H10
  isplitl [H11]
  · rw [← owns_eq_rep]; unfold owns; iexists _; isplitr
    swap; · iexact H11
    ipureintro
    try unfold run_C.sl.H11_1
    simp only [load_rep, load_stored, View.read_rep, stored_put]
  · rw [← owns_eq_rep]; unfold owns; iexists _; isplitr
    swap; · iexact H12
    ipureintro
    try unfold run_C.sl.H12_1
    try unfold run_C.sl.r
    refine (View.read_writes_full _ _ _ _ _).trans ?_
    simp only [load_rep, load_stored, load_whole, stored_put, View.read_rep]

end Cert.KernelIdeal.Gen

end
-- ==== Proof.KernelIdealFrame.lean ====
/- The kernel's run, every buffer named at every grid point: within a row block the codes and scales of the block stay in their
   output buffers, the scratch holds the tiles of `h` so far and the running maximum, and the last column tile quantises them.
   From this, the frame claim and what each output array ends as. -/
module

public import proofs.«01_k».proof.Proof.KernelIdealRuns
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

theorem N896 : cfg0.N = 896 := N_0

/-- The grid's point at position `n`. -/
def pt (n : ℕ) : Fin cfg0.N := ⟨n % 896, by rw [N896]; exact Nat.mod_lt _ (by decide)⟩

theorem pt_val (t : Fin cfg0.N) : pt t.val = t :=
  Fin.ext (Nat.mod_eq_of_lt (lt_of_lt_of_eq t.isLt N896))

/-- The codes of row block `r` of `x`, -/
def XC (c : Dev nD) (r : ℕ) : Vec F S256x3584 .fp8e4m3 := k0_pay10 (k0_pay6 (iblk m c 0 (pt (28 * r))))
/-- and its scales. -/
def XS (c : Dev nD) (r : ℕ) : Vec F S256x1 .f32 := k0_pay5 (iblk m c 0 (pt (28 * r)))
/-- The tile of `h` at row block `r`, column tile `j`. -/
def HT (c : Dev nD) (r j : ℕ) : Vec F S256x512 .f32 :=
  k0_pay13 (XC m c r) (XS m c r) (iblk m c 1 (pt (28 * r + j))) (iblk m c 2 (pt (28 * r + j))) (iblk m c 3 (pt (28 * r + j))) (iblk m c 4 (pt (28 * r + j)))
/-- Its absolute values' maxima, lane by lane. -/
def AT (c : Dev nD) (r j : ℕ) : FVec F S256x128 .f32 :=
  k0_pay14 (XC m c r) (XS m c r) (iblk m c 1 (pt (28 * r + j))) (iblk m c 2 (pt (28 * r + j))) (iblk m c 3 (pt (28 * r + j))) (iblk m c 4 (pt (28 * r + j)))
/-- The running maxima of row block `r` after `n` column tiles. -/
def AM (c : Dev nD) (r : ℕ) : ℕ → FVec F S256x128 .f32
  | 0 => k0_pay11
  | n + 1 => k0_pay1 (AT m c r n) (AM c r n)
/-- Row block `r` of `h`, whole: its column tiles side by side. -/
def HV (c : Dev nD) (r : ℕ) : Vec F S256x14336 .f32 := fun y =>
  HT m c r ((y 1).val / 512) (fun a => match a with
    | ⟨0, _⟩ => ⟨(y 0).val, (y 0).isLt⟩
    | ⟨1, _⟩ => ⟨(y 1).val % 512, Nat.mod_lt _ (by decide)⟩)
/-- The scales of row block `r` of `h`, -/
def OS (c : Dev nD) (r : ℕ) : Vec F S256x1 .f32 := k0_pay8 (AM m c r 28)
/-- and its codes. -/
def OC (c : Dev nD) (r : ℕ) : Vec F S256x14336 .fp8e4m3 :=
  k0_pay2 (k0_pay9 (AM m c r 28) (HV m c r)) (Scalar.ofBits .f32 0xC3E00000#32) (Scalar.ofBits .f32 0x43E00000#32)

/-- The tile's columns start at 512 times the column tile. -/
theorem off1_eq (t : Fin cfg0.N) : k0_off1 (grid0.coords t) = ![0, 512 * (t.val % 28)] := by
  have e1 : (grid0.coords t 1).val = t.val / 1 % 28 := Pipeline.Grid.coords_val t 1 (by decide) rfl
  have key : ∀ j : Fin 28, (fun j : ℕ => ![(0 : ℕ), (Scalar.indexCast (Scalar.muli (BitVec.ofNat 32 j) 512#32) : Index).toNat]) j.val = ![0, 512 * j.val] := by
    decide +kernel
  have h := key ⟨t.val % 28, Nat.mod_lt _ (by decide)⟩
  unfold k0_off1
  rw [e1, Nat.div_one]
  exact h

/-- Storing the tile at column tile `j` extends the columns known from `512 j` to `512 (j + 1)`. -/
theorem put_known (c : Dev nD) (t : Fin cfg0.N) (d : Vec F S256x14336 .f32)
    (hd : ∀ y : S256x14336.Idx, (y 1).val < 512 * (t.val % 28) → d y = HV m c (t.val / 28) y) (y : S256x14336.Idx)
    (hy : (y 1).val < 512 * (t.val % 28 + 1)) :
    VecWindow.put d (k0_off1 (grid0.coords t)) S256x512.size (HT m c (t.val / 28) (t.val % 28)) y = HV m c (t.val / 28) y := by
  rw [off1_eq]
  unfold VecWindow.put
  by_cases hc : 512 * (t.val % 28) ≤ (y 1).val
  · have h : ∀ a : Fin 2, (![0, 512 * (t.val % 28)] : Fin 2 → ℕ) a ≤ (y a).val ∧ (y a).val < (![0, 512 * (t.val % 28)] : Fin 2 → ℕ) a + S256x512.size a := by
      intro a
      match a with
      | ⟨0, _⟩ => exact ⟨Nat.zero_le _, by have := (y 0).isLt; show (y 0).val < 0 + 256; exact lt_of_lt_of_eq this rfl⟩
      | ⟨1, _⟩ => exact ⟨hc, by show (y 1).val < 512 * (t.val % 28) + 512; omega⟩
    rw [dif_pos h]
    unfold HV
    have e : t.val % 28 = (y 1).val / 512 := by omega
    have ey : (Rect.unitLocal (s := S256x14336) (off := ![0, 512 * (t.val % 28)]) (size := S256x512.size) y h)
        = (fun a => match a with
          | ⟨0, _⟩ => ⟨(y 0).val, (y 0).isLt⟩
          | ⟨1, _⟩ => ⟨(y 1).val % 512, Nat.mod_lt _ (by decide)⟩ : S256x512.Idx) := by
      funext a
      apply Fin.ext
      match a with
      | ⟨0, _⟩ => show (Rect.unitLocal (s := S256x14336) y h _).val = (y 0).val; rw [Rect.unitLocal_val]; rfl
      | ⟨1, _⟩ =>
        show (Rect.unitLocal (s := S256x14336) y h _).val = (y 1).val % 512
        rw [Rect.unitLocal_val]; show (y 1).val - 512 * (t.val % 28) = _; omega
    rw [ey, e]
  · rw [dif_neg (fun h => hc (h 1).1)]
    exact hd y (by omega)

/-- At the last column tile every column is known. -/
theorem put_all (c : Dev nD) (t : Fin cfg0.N) (h1 : t.val % 28 = 27) (d : Vec F S256x14336 .f32)
    (hd : ∀ y : S256x14336.Idx, (y 1).val < 512 * (t.val % 28) → d y = HV m c (t.val / 28) y) :
    VecWindow.put d (k0_off1 (grid0.coords t)) S256x512.size (HT m c (t.val / 28) (t.val % 28)) = HV m c (t.val / 28) := by
  funext y
  exact put_known m c t d hd y (by have : (y 1).val < 14336 := (y 1).isLt; omega)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The outputs of `h` are stored at the last column tile only, -/
theorem idle0_h (t : Fin cfg0.N) : cfg0.idle 5 (grid0.coords t) = !decide (t.val % 28 = 27) ∧ cfg0.idle 6 (grid0.coords t) = !decide (t.val % 28 = 27) := by
  have h := hcond0_1 t
  by_cases h1 : t.val % 28 = 27
  · have e := h.mpr h1
    exact ⟨by show (!(k0_cond2 (grid0.coords t) == 1#1)) = _; rw [e, decide_eq_true h1]; rfl, by show (!(k0_cond2 (grid0.coords t) == 1#1)) = _; rw [e, decide_eq_true h1]; rfl⟩
  · have e : ¬ k0_cond2 (grid0.coords t) = 1#1 := fun e => h1 (h.mp e)
    have e' : (k0_cond2 (grid0.coords t) == 1#1) = false := by simpa using e
    exact ⟨by show (!(k0_cond2 (grid0.coords t) == 1#1)) = _; rw [e', decide_eq_false h1], by show (!(k0_cond2 (grid0.coords t) == 1#1)) = _; rw [e', decide_eq_false h1]⟩
/-- and those of `x` at the first. -/
theorem idle0_x (t : Fin cfg0.N) : cfg0.idle 7 (grid0.coords t) = !decide (t.val % 28 = 0) ∧ cfg0.idle 8 (grid0.coords t) = !decide (t.val % 28 = 0) := by
  have h := hcond0_0 t
  by_cases h1 : t.val % 28 = 0
  · have e := h.mpr h1
    exact ⟨by show (!(k0_cond1 (grid0.coords t) == 1#1)) = _; rw [e, decide_eq_true h1]; rfl, by show (!(k0_cond1 (grid0.coords t) == 1#1)) = _; rw [e, decide_eq_true h1]; rfl⟩
  · have e : ¬ k0_cond1 (grid0.coords t) = 1#1 := fun e => h1 (h.mp e)
    have e' : (k0_cond1 (grid0.coords t) == 1#1) = false := by simpa using e
    exact ⟨by show (!(k0_cond1 (grid0.coords t) == 1#1)) = _; rw [e', decide_eq_false h1], by show (!(k0_cond1 (grid0.coords t) == 1#1)) = _; rw [e', decide_eq_false h1]⟩

theorem flush_eq {w : Fin cfg0.W} (h : ∀ t : Fin cfg0.N, (cfg0.win w).flush t = true ↔ t.val % 28 = 27) (t : Fin cfg0.N) :
    (cfg0.win w).flush t = decide (t.val % 28 = 27) := by
  by_cases h1 : t.val % 28 = 27
  · rw [decide_eq_true h1]; exact (h t).mpr h1
  · rw [decide_eq_false h1]; exact Bool.eq_false_iff.mpr fun e => h1 ((h t).mp e)

/-- An output stored at the first column tile and written back at the last holds nothing of the body's exactly when a row block starts. -/
theorem fresh_x (w : Fin cfg0.W) (hi : ∀ t : Fin cfg0.N, cfg0.idle w (grid0.coords t) = !decide (t.val % 28 = 0))
    (hf : ∀ t : Fin cfg0.N, (cfg0.win w).flush t = true ↔ t.val % 28 = 27) (t : Fin cfg0.N) :
    cfg0.fresh w t.val = decide (t.val % 28 = 0) := by
  refine cfg0.fresh_tab w (fun n => decide (n % 28 = 0)) rfl (fun t => ?_) t.val (Nat.le_of_lt t.isLt)
  rw [flush_eq hf t, show cfg0.idle w (cfg0.grid.coords t) = _ from hi t]
  by_cases h1 : t.val % 28 = 27
  · rw [decide_eq_true h1, decide_eq_true (show (t.val + 1) % 28 = 0 by omega), Bool.true_or]
  · rw [decide_eq_false h1, decide_eq_false (show ¬(t.val + 1) % 28 = 0 by omega), Bool.false_or, Bool.not_and_self]

/-! ## The proof data -/

/-- Each window's current staging memref at point `t`. -/
abbrev ms0_0 (t : Fin cfg0.N) : Memref sig .tc .vmem S256x3584 .bf16 := win0_0.stage (cfg0.slots t 0)
abbrev ms0_1 (t : Fin cfg0.N) : Memref sig .tc .vmem S3584x512 .fp8e4m3 := win0_1.stage (cfg0.slots t 1)
abbrev ms0_2 (t : Fin cfg0.N) : Memref sig .tc .vmem S3584x512 .fp8e4m3 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S1x512 .f32 := win0_4.stage (cfg0.slots t 4)
abbrev ms0_5 (t : Fin cfg0.N) : Memref sig .tc .vmem S256x1 .f32 := win0_5.stage (cfg0.slots t 5)
abbrev ms0_6 (t : Fin cfg0.N) : Memref sig .tc .vmem S256x14336 .fp8e4m3 := win0_6.stage (cfg0.slots t 6)
abbrev ms0_7 (t : Fin cfg0.N) : Memref sig .tc .vmem S256x3584 .fp8e4m3 := win0_7.stage (cfg0.slots t 7)
abbrev ms0_8 (t : Fin cfg0.N) : Memref sig .tc .vmem S256x1 .f32 := win0_8.stage (cfg0.slots t 8)
/-- The scratch of `h`, and of the running maxima. -/
abbrev scM0_0 : Memref sig .tc .vmem S256x14336 .f32 := Memref.whole cc0_scratch0
abbrev scM0_1 : Memref sig .tc .vmem S256x128 .f32 := Memref.whole cc0_scratch1

/-- The region's own invariant, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant at position `n` inside a row block: the first `512 (n mod 28)` columns of the `h` scratch are the block's, and the running
    maxima are those of the tiles so far. -/
def PhiIn (c : Dev nD) (n : ℕ) : sProp 𝕄 :=
  iprop(iprop((∃ d, ⌜∀ y : S256x14336.Idx, (y 1).val < 512 * (n % 28) → d y = HV m c (n / 28) y⌝ ∗ owns (c : Thread nD τ) scM0_0 fullShare d)
    ∗ owns (c : Thread nD τ) scM0_1 fullShare (AM m c (n / 28) (n % 28))) ∗ (∃ r, prngReg c r))

/-- The invariant at position `n`: nothing known where a row block starts. -/
def PhiS (c : Dev nD) (n : ℕ) : sProp 𝕄 := if n % 28 = 0 then Pipeline.ΦA spec0 c else PhiIn m c n

/-- What every buffer holds after every point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OS m c (t.val / 28)
    | ⟨6, _⟩ => OC m c (t.val / 28)
    | ⟨7, _⟩ => XC m c (t.val / 28)
    | ⟨8, _⟩ => XS m c (t.val / 28)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = OS m c (t.val / 28) := by dsimp only [dats]
theorem after0_6 (c : Dev nD) (t : Fin cfg0.N) : (dats m 0 c).after 6 t = OC m c (t.val / 28) := by dsimp only [dats]
theorem after0_7 (c : Dev nD) (t : Fin cfg0.N) : (dats m 0 c).after 7 t = XC m c (t.val / 28) := by dsimp only [dats]
theorem after0_8 (c : Dev nD) (t : Fin cfg0.N) : (dats m 0 c).after 8 t = XS m c (t.val / 28) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first column tile of a row block, output 7's buffer holds what that tile stored. -/
theorem before0_7 (c : Dev nD) (t : Fin cfg0.N) (h0 : ¬t.val % 28 = 0) (d) : (dats m 0 c).before 7 t d = XC m c (t.val / 28) := by
  have hfr := fresh_x 7 (fun t => (idle0_x t).1) flush0_7 t
  rw [decide_eq_false h0] at hfr
  rw [(dats m 0 c).before_out_traj 7 rfl (fun _ _ => rfl) (fun s hs hi hf => ?_) t.val t rfl d, if_neg (by rw [hfr]; exact Bool.false_ne_true)]
  · rw [after0_7]; exact congrArg (XC m c) (show (t.val - 1) / 28 = t.val / 28 by omega)
  · have hs0 : ¬s.val % 28 = 0 := by
      intro e
      have := (idle0_x s).1
      rw [decide_eq_true e] at this
      exact Bool.false_ne_true (this.symm.trans hi)
    rw [after0_7, after0_7]; exact congrArg (XC m c) (show s.val / 28 = (s.val - 1) / 28 by omega)

/-- After the first column tile of a row block, output 8's buffer holds what that tile stored. -/
theorem before0_8 (c : Dev nD) (t : Fin cfg0.N) (h0 : ¬t.val % 28 = 0) (d) : (dats m 0 c).before 8 t d = XS m c (t.val / 28) := by
  have hfr := fresh_x 8 (fun t => (idle0_x t).2) flush0_8 t
  rw [decide_eq_false h0] at hfr
  rw [(dats m 0 c).before_out_traj 8 rfl (fun _ _ => rfl) (fun s hs hi hf => ?_) t.val t rfl d, if_neg (by rw [hfr]; exact Bool.false_ne_true)]
  · rw [after0_8]; exact congrArg (XS m c) (show (t.val - 1) / 28 = t.val / 28 by omega)
  · have hs0 : ¬s.val % 28 = 0 := by
      intro e
      have := (idle0_x s).2
      rw [decide_eq_true e] at this
      exact Bool.false_ne_true (this.symm.trans hi)
    rw [after0_8, after0_8]; exact congrArg (XS m c) (show s.val / 28 = (s.val - 1) / 28 by omega)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window the body stores into, or whose block is written back, is left at what the proof data says. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]
theorem leaves_flush (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

set_option maxHeartbeats 3200000 in
/-- The body at a row block's first column tile. -/
theorem sound_A (c : Dev nD) (t : Fin cfg0.N) (h0 : t.val % 28 = 0) (h1 : ¬t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = Pipeline.ΦA spec0 c from if_pos h0, show PhiS m c (t.val + 1) = PhiIn m c (t.val + 1) from if_neg (by omega), PhiA0_eq]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [Dat.leavesExact_idle (dats m 0 c) 5 t (by rw [show cfg0.idle 5 (cfg0.grid.coords t) = _ from (idle0_h t).1, decide_eq_false h1]; rfl) (by rw [flush_eq flush0_5 t, decide_eq_false h1])]
  rw [Dat.leavesExact_idle (dats m 0 c) 6 t (by rw [show cfg0.idle 6 (cfg0.grid.coords t) = _ from (idle0_h t).2, decide_eq_false h1]; rfl) (by rw [flush_eq flush0_6 t, decide_eq_false h1])]
  rw [leaves_live m c 7 t (by rw [(idle0_x t).1, decide_eq_true h0]; rfl), after0_7]
  rw [leaves_live m c 8 t (by rw [(idle0_x t).2, decide_eq_true h0]; rfl), after0_8]
  have et : pt (28 * (t.val / 28) + t.val % 28) = t := by rw [Nat.div_add_mod]; exact pt_val t
  have et0 : pt (28 * (t.val / 28)) = t := by rw [show 28 * (t.val / 28) = t.val by omega]; exact pt_val t
  have exc : XC m c (t.val / 28) = k0_pay10 (k0_pay6 (iblk m c 0 t)) := by unfold XC; rw [et0]
  have exs : XS m c (t.val / 28) = k0_pay5 (iblk m c 0 t) := by unfold XS; rw [et0]
  have eH : HT m c (t.val / 28) (t.val % 28) = k0_pay13 (k0_pay10 (k0_pay6 (iblk m c 0 t))) (k0_pay5 (iblk m c 0 t)) (iblk m c 1 t) (iblk m c 2 t) (iblk m c 3 t) (iblk m c 4 t) := by unfold HT; rw [et, exc, exs]
  have eA : AT m c (t.val / 28) (t.val % 28) = k0_pay14 (k0_pay10 (k0_pay6 (iblk m c 0 t))) (k0_pay5 (iblk m c 0 t)) (iblk m c 1 t) (iblk m c 2 t) (iblk m c 3 t) (iblk m c 4 t) := by unfold AT; rw [et, exc, exs]
  have eM : AM m c (t.val / 28) (t.val % 28 + 1) = k0_pay1 (k0_pay14 (k0_pay10 (k0_pay6 (iblk m c 0 t))) (k0_pay5 (iblk m c 0 t)) (iblk m c 1 t) (iblk m c 2 t) (iblk m c 3 t) (iblk m c 4 t)) k0_pay11 := by rw [← eA]; show k0_pay1 _ _ = _; rw [show AM m c (t.val / 28) (t.val % 28) = k0_pay11 from by rw [h0]; rfl]
  iintro ⟨⟨⟨⟨%d11, HS0⟩, ⟨%d12, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) ((dats m 0 c).before 5 t d5) ((dats m 0 c).before 6 t d6) d11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexists _; iexact HS1
  iintro ⟨H0, H1, H2, H3, H4, H5, H6, H7, H8, HS0, HS1⟩
  rw [← eM, ← eH]
  rw [← exc, ← exs]
  isplitl [HS0 HS1 Hg]
  · isplitl [HS0 HS1]
    · isplitl [HS0]
      · iexists _; isplitr; swap; · iexact HS0
        ipureintro; intro y hy
        rw [show (t.val + 1) / 28 = t.val / 28 by omega]; rw [show (t.val + 1) % 28 = t.val % 28 + 1 by omega] at hy
        exact put_known m c t d11 (fun y hy => absurd hy (by rw [h0]; omega)) y hy
      · rw [show (t.val + 1) / 28 = t.val / 28 by omega, show (t.val + 1) % 28 = t.val % 28 + 1 by omega]; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iexact H8

set_option maxHeartbeats 3200000 in
/-- The body at a row block's middle column tiles. -/
theorem sound_B (c : Dev nD) (t : Fin cfg0.N) (h0 : ¬t.val % 28 = 0) (h1 : ¬t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  simp only [before0_7 m c t h0, before0_8 m c t h0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = PhiIn m c t.val from if_neg h0, show PhiS m c (t.val + 1) = PhiIn m c (t.val + 1) from if_neg (by omega)]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [Dat.leavesExact_idle (dats m 0 c) 5 t (by rw [show cfg0.idle 5 (cfg0.grid.coords t) = _ from (idle0_h t).1, decide_eq_false h1]; rfl) (by rw [flush_eq flush0_5 t, decide_eq_false h1])]
  rw [Dat.leavesExact_idle (dats m 0 c) 6 t (by rw [show cfg0.idle 6 (cfg0.grid.coords t) = _ from (idle0_h t).2, decide_eq_false h1]; rfl) (by rw [flush_eq flush0_6 t, decide_eq_false h1])]
  rw [Dat.leavesExact_idle (dats m 0 c) 7 t (by rw [show cfg0.idle 7 (cfg0.grid.coords t) = _ from (idle0_x t).1, decide_eq_false h0]; rfl) (by rw [flush_eq flush0_7 t, decide_eq_false h1])]
  rw [Dat.leavesExact_idle (dats m 0 c) 8 t (by rw [show cfg0.idle 8 (cfg0.grid.coords t) = _ from (idle0_x t).2, decide_eq_false h0]; rfl) (by rw [flush_eq flush0_8 t, decide_eq_false h1])]
  simp only [before0_7 m c t h0, before0_8 m c t h0]
  have et : pt (28 * (t.val / 28) + t.val % 28) = t := by rw [Nat.div_add_mod]; exact pt_val t
  have eH : HT m c (t.val / 28) (t.val % 28) = k0_pay13 (XC m c (t.val / 28)) (XS m c (t.val / 28)) (iblk m c 1 t) (iblk m c 2 t) (iblk m c 3 t) (iblk m c 4 t) := by unfold HT; rw [et]
  have eA : AT m c (t.val / 28) (t.val % 28) = k0_pay14 (XC m c (t.val / 28)) (XS m c (t.val / 28)) (iblk m c 1 t) (iblk m c 2 t) (iblk m c 3 t) (iblk m c 4 t) := by unfold AT; rw [et]
  have eM : AM m c (t.val / 28) (t.val % 28 + 1) = k0_pay1 (k0_pay14 (XC m c (t.val / 28)) (XS m c (t.val / 28)) (iblk m c 1 t) (iblk m c 2 t) (iblk m c 3 t) (iblk m c 4 t)) (AM m c (t.val / 28) (t.val % 28)) := by rw [← eA]; rfl
  iintro ⟨⟨⟨⟨%d11, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) ((dats m 0 c).before 5 t d5) ((dats m 0 c).before 6 t d6) (XC m c (t.val / 28)) (XS m c (t.val / 28)) d11 (AM m c (t.val / 28) (t.val % 28)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  rw [← eM, ← eH]
  isplitl [HS0 HS1 Hg]
  · isplitl [HS0 HS1]
    · isplitl [HS0]
      · iexists _; isplitr; swap; · iexact HS0
        ipureintro; intro y hy
        rw [show (t.val + 1) / 28 = t.val / 28 by omega]; rw [show (t.val + 1) % 28 = t.val % 28 + 1 by omega] at hy
        exact put_known m c t d11 hd y hy
      · rw [show (t.val + 1) / 28 = t.val / 28 by omega, show (t.val + 1) % 28 = t.val % 28 + 1 by omega]; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists d7; iexact H7
  iexists d8; iexact H8

set_option maxHeartbeats 3200000 in
/-- The body at a row block's last column tile. -/
theorem sound_C (c : Dev nD) (t : Fin cfg0.N) (h0 : ¬t.val % 28 = 0) (h1 : t.val % 28 = 27) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  simp only [before0_7 m c t h0, before0_8 m c t h0]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show PhiS m c t.val = PhiIn m c t.val from if_neg h0, show PhiS m c (t.val + 1) = Pipeline.ΦA spec0 c from if_pos (by omega), PhiA0_eq]
  unfold PhiIn
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (by rw [(idle0_h t).1, decide_eq_true h1]; rfl), after0_5]
  rw [leaves_live m c 6 t (by rw [(idle0_h t).2, decide_eq_true h1]; rfl), after0_6]
  rw [leaves_flush m c 7 t (by rw [(idle0_x t).1, decide_eq_false h0]; rfl) (by rw [flush_eq flush0_7 t, decide_eq_true h1]), after0_7]
  rw [leaves_flush m c 8 t (by rw [(idle0_x t).2, decide_eq_false h0]; rfl) (by rw [flush_eq flush0_8 t, decide_eq_true h1]), after0_8]
  have et : pt (28 * (t.val / 28) + t.val % 28) = t := by rw [Nat.div_add_mod]; exact pt_val t
  have eH : HT m c (t.val / 28) (t.val % 28) = k0_pay13 (XC m c (t.val / 28)) (XS m c (t.val / 28)) (iblk m c 1 t) (iblk m c 2 t) (iblk m c 3 t) (iblk m c 4 t) := by unfold HT; rw [et]
  have eA : AT m c (t.val / 28) (t.val % 28) = k0_pay14 (XC m c (t.val / 28)) (XS m c (t.val / 28)) (iblk m c 1 t) (iblk m c 2 t) (iblk m c 3 t) (iblk m c 4 t) := by unfold AT; rw [et]
  have eM : AM m c (t.val / 28) (t.val % 28 + 1) = k0_pay1 (k0_pay14 (XC m c (t.val / 28)) (XS m c (t.val / 28)) (iblk m c 1 t) (iblk m c 2 t) (iblk m c 3 t) (iblk m c 4 t)) (AM m c (t.val / 28) (t.val % 28)) := by rw [← eA]; rfl
  iintro ⟨⟨⟨⟨%d11, %hd, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (XC m c (t.val / 28)) (XS m c (t.val / 28)) d11 (AM m c (t.val / 28) (t.val % 28)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  rw [← eM, ← eH]
  rw [put_all m c t h1 d11 hd]
  rw [show AM m c (t.val / 28) (t.val % 28 + 1) = AM m c (t.val / 28) 28 from by rw [h1]]
  isplitl [HS0 HS1 Hg]
  · isplitl [HS0 HS1]
    · isplitl [HS0]
      · iexists _; iexact HS0
      · iexists _; iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 28 = 0
  · exact sound_A m c t h0 (by omega)
  · by_cases h1 : t.val % 28 = 27
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 from rfl, show PhiS m c 0 = Pipeline.ΦA spec0 c from if_pos rfl]

/-- and the invariant after the last is what the region hands back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    show PhiS m c (Fin.last cfg0.N).val = Pipeline.ΦA spec0 c from if_pos (by rw [Fin.val_last, N896])]

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelIdealValue.lean ====
/- What each output array of the kernel ends as, index by index, in terms of the tiles the body computes; and what each tile's operands
   are of the argument arrays. -/
module

public import proofs.«01_k».proof.Proof.KernelIdealFrame
public import Idealize.ShloMosaic.Lib.Pipeline.Value
public import Idealize.ShloMosaic.Lib.ValueIdxCore

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx (ix2)

variable {F : FTy → Type} [FloatOps F]
variable (m : (ℓ : Loc nD τ sig) → Buf (Elt F) ℓ) (ρ : Dev nD → PrngReg)

/-! ## Output 0 -/

set_option backward.proofsInPublic true in
/-- An index's place in its row block. -/
abbrev loc5 (i : S8192x1.Idx) : S256x1.Idx := fun a => match a with
  | ⟨0, _⟩ => ⟨(i 0).val % 256, Nat.mod_lt _ (by decide)⟩
  | ⟨1, _⟩ => ⟨(i 1).val, (i 1).isLt⟩

/-- What the array ends holding: row block by row block, what the body left in the output's buffer. -/
def G5 (c : Dev nD) : Buf (Elt F) ((c : Thread nD τ).loc main_v3_0) := fun i => OS m c ((i 0).val / 256) (loc5 i)

/-- Point `t` names row block `t / 28`. -/
theorem idx5 : ∀ t : Fin cfg0.N, win0_5.index t (0 : Fin 2) = t.val / 28 ∧ win0_5.index t (1 : Fin 2) = 0 :=
  (by decide +kernel : ∀ t : Fin grid0.N, _)

/-- What a point writes back is its block of `G5`. -/
theorem flushed5_eq (c : Dev nD) (t : Fin cfg0.N) :
    (dats m 0 c).flushed 5 t = ((cfg0.win 5).blk t).view.read (Elt F) (G5 m c) := by
  show (cfg0.win 5).cut (grid0.coords t) ((dats m 0 c).after 5 t) = _
  rw [after0_5]
  obtain ⟨e0, e1⟩ := idx5 t
  funext y
  have hy0 : (y 0).val < 256 := (y 0).isLt
  have hy1 : (y 1).val < 1 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 1 + 1 * (y 1).val := rfl
  have hr : (((cfg0.win 5).blk t).view.emb y 0).val / 256 = t.val / 28 := by rw [hb0, e0]; omega
  have hl : loc5 (((cfg0.win 5).blk t).view.emb y) = (cfg0.win 5).xinj (grid0.coords t) y := by
    funext a; apply Fin.ext
    match a with
    | ⟨0, _⟩ => show (((cfg0.win 5).blk t).view.emb y 0).val % 256 = (y 0).val; rw [hb0, e0]; omega
    | ⟨1, _⟩ => show (((cfg0.win 5).blk t).view.emb y 1).val = (y 1).val; rw [hb1, e1]; omega
  show OS m c (t.val / 28) ((cfg0.win 5).xinj (grid0.coords t) y) = OS m c ((((cfg0.win 5).blk t).view.emb y 0).val / 256) (loc5 (((cfg0.win 5).blk t).view.emb y))
  rw [hr, hl]

/-- An index of the array is in point `t`'s block iff each coordinate is in the block's range on its axis. -/
theorem mem_blk5 (t : Fin cfg0.N) (i : S8192x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v3_0).slice (win0_5.rect t)).set ↔ _
  rw [View.set_slice_whole, Rect.mem_set_unit]
  exact Iff.rfl

/-- The array after the run is `G5`: the blocks written back tile it. -/
theorem final5 (c : Dev nD) : (dats m 0 c).arrAt 5 cfg0.N = G5 m c :=
  (dats m 0 c).arrAt_eq_of_cover 5 _ (fun t _ => flushed5_eq m c t) (fun i => by
    have h0 : (i 0).val < 8192 := (i 0).isLt
    have h1 : (i 1).val < 1 := (i 1).isLt
    have ht : 28 * ((i 0).val / 256) + 27 < cfg0.N := by rw [N896]; omega
    obtain ⟨e0, e1⟩ := idx5 ⟨28 * ((i 0).val / 256) + 27, ht⟩
    simp only at e0
    refine ⟨⟨28 * ((i 0).val / 256) + 27, ht⟩, (flush0_5 _).mpr (by simp only; omega), ?_⟩
    rw [mem_blk5]
    intro a
    match a with
    | ⟨0, _⟩ => show win0_5.index _ (0 : Fin 2) * 256 ≤ (i 0).val ∧ (i 0).val < win0_5.index _ (0 : Fin 2) * 256 + 256; omega
    | ⟨1, _⟩ => show win0_5.index _ (1 : Fin 2) * 1 ≤ (i 1).val ∧ (i 1).val < win0_5.index _ (1 : Fin 2) * 1 + 1; omega)

/-! ## Output 1 -/

set_option backward.proofsInPublic true in
/-- An index's place in its row block. -/
abbrev loc6 (i : S8192x14336.Idx) : S256x14336.Idx := fun a => match a with
  | ⟨0, _⟩ => ⟨(i 0).val % 256, Nat.mod_lt _ (by decide)⟩
  | ⟨1, _⟩ => ⟨(i 1).val, (i 1).isLt⟩

/-- What the array ends holding: row block by row block, what the body left in the output's buffer. -/
def G6 (c : Dev nD) : Buf (Elt F) ((c : Thread nD τ).loc main_v3_1) := fun i => OC m c ((i 0).val / 256) (loc6 i)

/-- Point `t` names row block `t / 28`. -/
theorem idx6 : ∀ t : Fin cfg0.N, win0_6.index t (0 : Fin 2) = t.val / 28 ∧ win0_6.index t (1 : Fin 2) = 0 :=
  (by decide +kernel : ∀ t : Fin grid0.N, _)

/-- What a point writes back is its block of `G6`. -/
theorem flushed6_eq (c : Dev nD) (t : Fin cfg0.N) :
    (dats m 0 c).flushed 6 t = ((cfg0.win 6).blk t).view.read (Elt F) (G6 m c) := by
  show (cfg0.win 6).cut (grid0.coords t) ((dats m 0 c).after 6 t) = _
  rw [after0_6]
  obtain ⟨e0, e1⟩ := idx6 t
  funext y
  have hy0 : (y 0).val < 256 := (y 0).isLt
  have hy1 : (y 1).val < 14336 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 14336 + 1 * (y 1).val := rfl
  have hr : (((cfg0.win 6).blk t).view.emb y 0).val / 256 = t.val / 28 := by rw [hb0, e0]; omega
  have hl : loc6 (((cfg0.win 6).blk t).view.emb y) = (cfg0.win 6).xinj (grid0.coords t) y := by
    funext a; apply Fin.ext
    match a with
    | ⟨0, _⟩ => show (((cfg0.win 6).blk t).view.emb y 0).val % 256 = (y 0).val; rw [hb0, e0]; omega
    | ⟨1, _⟩ => show (((cfg0.win 6).blk t).view.emb y 1).val = (y 1).val; rw [hb1, e1]; omega
  show OC m c (t.val / 28) ((cfg0.win 6).xinj (grid0.coords t) y) = OC m c ((((cfg0.win 6).blk t).view.emb y 0).val / 256) (loc6 (((cfg0.win 6).blk t).view.emb y))
  rw [hr, hl]

/-- An index of the array is in point `t`'s block iff each coordinate is in the block's range on its axis. -/
theorem mem_blk6 (t : Fin cfg0.N) (i : S8192x14336.Idx) :
    i ∈ ((cfg0.win 6).blk t).view.set ↔ ∀ a : Fin 2, win0_6.index t a * S256x14336.size a ≤ (i a).val ∧ (i a).val < win0_6.index t a * S256x14336.size a + S256x14336.size a := by
  show i ∈ ((View.whole main_v3_1).slice (win0_6.rect t)).set ↔ _
  rw [View.set_slice_whole, Rect.mem_set_unit]
  exact Iff.rfl

/-- The array after the run is `G6`: the blocks written back tile it. -/
theorem final6 (c : Dev nD) : (dats m 0 c).arrAt 6 cfg0.N = G6 m c :=
  (dats m 0 c).arrAt_eq_of_cover 6 _ (fun t _ => flushed6_eq m c t) (fun i => by
    have h0 : (i 0).val < 8192 := (i 0).isLt
    have h1 : (i 1).val < 14336 := (i 1).isLt
    have ht : 28 * ((i 0).val / 256) + 27 < cfg0.N := by rw [N896]; omega
    obtain ⟨e0, e1⟩ := idx6 ⟨28 * ((i 0).val / 256) + 27, ht⟩
    simp only at e0
    refine ⟨⟨28 * ((i 0).val / 256) + 27, ht⟩, (flush0_6 _).mpr (by simp only; omega), ?_⟩
    rw [mem_blk6]
    intro a
    match a with
    | ⟨0, _⟩ => show win0_6.index _ (0 : Fin 2) * 256 ≤ (i 0).val ∧ (i 0).val < win0_6.index _ (0 : Fin 2) * 256 + 256; omega
    | ⟨1, _⟩ => show win0_6.index _ (1 : Fin 2) * 14336 ≤ (i 1).val ∧ (i 1).val < win0_6.index _ (1 : Fin 2) * 14336 + 14336; omega)

/-! ## Output 2 -/

set_option backward.proofsInPublic true in
/-- An index's place in its row block. -/
abbrev loc7 (i : S8192x3584.Idx) : S256x3584.Idx := fun a => match a with
  | ⟨0, _⟩ => ⟨(i 0).val % 256, Nat.mod_lt _ (by decide)⟩
  | ⟨1, _⟩ => ⟨(i 1).val, (i 1).isLt⟩

/-- What the array ends holding: row block by row block, what the body left in the output's buffer. -/
def G7 (c : Dev nD) : Buf (Elt F) ((c : Thread nD τ).loc main_v3_2) := fun i => XC m c ((i 0).val / 256) (loc7 i)

/-- Point `t` names row block `t / 28`. -/
theorem idx7 : ∀ t : Fin cfg0.N, win0_7.index t (0 : Fin 2) = t.val / 28 ∧ win0_7.index t (1 : Fin 2) = 0 :=
  (by decide +kernel : ∀ t : Fin grid0.N, _)

/-- What a point writes back is its block of `G7`. -/
theorem flushed7_eq (c : Dev nD) (t : Fin cfg0.N) :
    (dats m 0 c).flushed 7 t = ((cfg0.win 7).blk t).view.read (Elt F) (G7 m c) := by
  show (cfg0.win 7).cut (grid0.coords t) ((dats m 0 c).after 7 t) = _
  rw [after0_7]
  obtain ⟨e0, e1⟩ := idx7 t
  funext y
  have hy0 : (y 0).val < 256 := (y 0).isLt
  have hy1 : (y 1).val < 3584 := (y 1).isLt
  have hb0 : (((cfg0.win 7).blk t).view.emb y 0).val = win0_7.index t (0 : Fin 2) * 256 + 1 * (y 0).val := rfl
  have hb1 : (((cfg0.win 7).blk t).view.emb y 1).val = win0_7.index t (1 : Fin 2) * 3584 + 1 * (y 1).val := rfl
  have hr : (((cfg0.win 7).blk t).view.emb y 0).val / 256 = t.val / 28 := by rw [hb0, e0]; omega
  have hl : loc7 (((cfg0.win 7).blk t).view.emb y) = (cfg0.win 7).xinj (grid0.coords t) y := by
    funext a; apply Fin.ext
    match a with
    | ⟨0, _⟩ => show (((cfg0.win 7).blk t).view.emb y 0).val % 256 = (y 0).val; rw [hb0, e0]; omega
    | ⟨1, _⟩ => show (((cfg0.win 7).blk t).view.emb y 1).val = (y 1).val; rw [hb1, e1]; omega
  show XC m c (t.val / 28) ((cfg0.win 7).xinj (grid0.coords t) y) = XC m c ((((cfg0.win 7).blk t).view.emb y 0).val / 256) (loc7 (((cfg0.win 7).blk t).view.emb y))
  rw [hr, hl]

/-- An index of the array is in point `t`'s block iff each coordinate is in the block's range on its axis. -/
theorem mem_blk7 (t : Fin cfg0.N) (i : S8192x3584.Idx) :
    i ∈ ((cfg0.win 7).blk t).view.set ↔ ∀ a : Fin 2, win0_7.index t a * S256x3584.size a ≤ (i a).val ∧ (i a).val < win0_7.index t a * S256x3584.size a + S256x3584.size a := by
  show i ∈ ((View.whole main_v3_2).slice (win0_7.rect t)).set ↔ _
  rw [View.set_slice_whole, Rect.mem_set_unit]
  exact Iff.rfl

/-- The array after the run is `G7`: the blocks written back tile it. -/
theorem final7 (c : Dev nD) : (dats m 0 c).arrAt 7 cfg0.N = G7 m c :=
  (dats m 0 c).arrAt_eq_of_cover 7 _ (fun t _ => flushed7_eq m c t) (fun i => by
    have h0 : (i 0).val < 8192 := (i 0).isLt
    have h1 : (i 1).val < 3584 := (i 1).isLt
    have ht : 28 * ((i 0).val / 256) + 27 < cfg0.N := by rw [N896]; omega
    obtain ⟨e0, e1⟩ := idx7 ⟨28 * ((i 0).val / 256) + 27, ht⟩
    simp only at e0
    refine ⟨⟨28 * ((i 0).val / 256) + 27, ht⟩, (flush0_7 _).mpr (by simp only; omega), ?_⟩
    rw [mem_blk7]
    intro a
    match a with
    | ⟨0, _⟩ => show win0_7.index _ (0 : Fin 2) * 256 ≤ (i 0).val ∧ (i 0).val < win0_7.index _ (0 : Fin 2) * 256 + 256; omega
    | ⟨1, _⟩ => show win0_7.index _ (1 : Fin 2) * 3584 ≤ (i 1).val ∧ (i 1).val < win0_7.index _ (1 : Fin 2) * 3584 + 3584; omega)

/-! ## Output 3 -/

set_option backward.proofsInPublic true in
/-- An index's place in its row block. -/
abbrev loc8 (i : S8192x1.Idx) : S256x1.Idx := fun a => match a with
  | ⟨0, _⟩ => ⟨(i 0).val % 256, Nat.mod_lt _ (by decide)⟩
  | ⟨1, _⟩ => ⟨(i 1).val, (i 1).isLt⟩

/-- What the array ends holding: row block by row block, what the body left in the output's buffer. -/
def G8 (c : Dev nD) : Buf (Elt F) ((c : Thread nD τ).loc main_v3_3) := fun i => XS m c ((i 0).val / 256) (loc8 i)

/-- Point `t` names row block `t / 28`. -/
theorem idx8 : ∀ t : Fin cfg0.N, win0_8.index t (0 : Fin 2) = t.val / 28 ∧ win0_8.index t (1 : Fin 2) = 0 :=
  (by decide +kernel : ∀ t : Fin grid0.N, _)

/-- What a point writes back is its block of `G8`. -/
theorem flushed8_eq (c : Dev nD) (t : Fin cfg0.N) :
    (dats m 0 c).flushed 8 t = ((cfg0.win 8).blk t).view.read (Elt F) (G8 m c) := by
  show (cfg0.win 8).cut (grid0.coords t) ((dats m 0 c).after 8 t) = _
  rw [after0_8]
  obtain ⟨e0, e1⟩ := idx8 t
  funext y
  have hy0 : (y 0).val < 256 := (y 0).isLt
  have hy1 : (y 1).val < 1 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 1 + 1 * (y 1).val := rfl
  have hr : (((cfg0.win 8).blk t).view.emb y 0).val / 256 = t.val / 28 := by rw [hb0, e0]; omega
  have hl : loc8 (((cfg0.win 8).blk t).view.emb y) = (cfg0.win 8).xinj (grid0.coords t) y := by
    funext a; apply Fin.ext
    match a with
    | ⟨0, _⟩ => show (((cfg0.win 8).blk t).view.emb y 0).val % 256 = (y 0).val; rw [hb0, e0]; omega
    | ⟨1, _⟩ => show (((cfg0.win 8).blk t).view.emb y 1).val = (y 1).val; rw [hb1, e1]; omega
  show XS m c (t.val / 28) ((cfg0.win 8).xinj (grid0.coords t) y) = XS m c ((((cfg0.win 8).blk t).view.emb y 0).val / 256) (loc8 (((cfg0.win 8).blk t).view.emb y))
  rw [hr, hl]

/-- An index of the array is in point `t`'s block iff each coordinate is in the block's range on its axis. -/
theorem mem_blk8 (t : Fin cfg0.N) (i : S8192x1.Idx) :
    i ∈ ((cfg0.win 8).blk t).view.set ↔ ∀ a : Fin 2, win0_8.index t a * S256x1.size a ≤ (i a).val ∧ (i a).val < win0_8.index t a * S256x1.size a + S256x1.size a := by
  show i ∈ ((View.whole main_v3_3).slice (win0_8.rect t)).set ↔ _
  rw [View.set_slice_whole, Rect.mem_set_unit]
  exact Iff.rfl

/-- The array after the run is `G8`: the blocks written back tile it. -/
theorem final8 (c : Dev nD) : (dats m 0 c).arrAt 8 cfg0.N = G8 m c :=
  (dats m 0 c).arrAt_eq_of_cover 8 _ (fun t _ => flushed8_eq m c t) (fun i => by
    have h0 : (i 0).val < 8192 := (i 0).isLt
    have h1 : (i 1).val < 1 := (i 1).isLt
    have ht : 28 * ((i 0).val / 256) + 27 < cfg0.N := by rw [N896]; omega
    obtain ⟨e0, e1⟩ := idx8 ⟨28 * ((i 0).val / 256) + 27, ht⟩
    simp only at e0
    refine ⟨⟨28 * ((i 0).val / 256) + 27, ht⟩, (flush0_8 _).mpr (by simp only; omega), ?_⟩
    rw [mem_blk8]
    intro a
    match a with
    | ⟨0, _⟩ => show win0_8.index _ (0 : Fin 2) * 256 ≤ (i 0).val ∧ (i 0).val < win0_8.index _ (0 : Fin 2) * 256 + 256; omega
    | ⟨1, _⟩ => show win0_8.index _ (1 : Fin 2) * 1 ≤ (i 1).val ∧ (i 1).val < win0_8.index _ (1 : Fin 2) * 1 + 1; omega)

/-! ## The run, read -/

/-- The run: each output array at its `G`, the arguments unchanged. -/
theorem run : θ_run defs (onTc (τ := τ) (main (F := F))) ⟨m, fun _ => 0, ρ⟩ fun r => ∀ c : Dev nD,
      r.2.mem ((c : Thread nD τ).loc main_v3_0) = G5 m c
      ∧ r.2.mem ((c : Thread nD τ).loc main_v3_1) = G6 m c
      ∧ r.2.mem ((c : Thread nD τ).loc main_v3_2) = G7 m c
      ∧ r.2.mem ((c : Thread nD τ).loc main_v3_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 5).trans (final5 m c), ((h c).1 6).trans (final6 m c), ((h c).1 7).trans (final7 m c),
      ((h c).1 8).trans (final8 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c)⟩)
    (run_main m ρ)

/-! ## The blocks the body reads -/

theorem inIdx0 : ∀ t : Fin cfg0.N, win0_0.index t (0 : Fin 2) = t.val / 28 ∧ win0_0.index t (1 : Fin 2) = 0 :=
  (by decide +kernel : ∀ t : Fin grid0.N, _)
/-- Input 0's block at point `t`, read at row `a`, column `b`. -/
theorem iblk0 (c : Dev nD) (t : Fin cfg0.N) (a : Fin 256) (b : Fin 3584) :
    iblk m c 0 t (ix2 a b) = V m c (Pipeline.arrRef spec0 0) (ix2 (n0 := 8192) (n1 := 3584)
      ⟨256 * (t.val / 28) + a.val, by have := t.isLt; have := N896; omega⟩ ⟨b.val, by omega⟩) := by
  obtain ⟨e0, e1⟩ := inIdx0 t
  show V m c (Pipeline.arrRef spec0 0) (((cfg0.win 0).blk t).view.emb (ix2 a b)) = _
  refine congrArg (V m c (Pipeline.arrRef spec0 0)) ?_
  funext d; apply Fin.ext
  match d with
  | ⟨0, _⟩ => show win0_0.index t (0 : Fin 2) * 256 + 1 * a.val = 256 * (t.val / 28) + a.val; rw [e0]; omega
  | ⟨1, _⟩ => show win0_0.index t (1 : Fin 2) * 3584 + 1 * b.val = b.val; rw [e1]; omega

theorem inIdx1 : ∀ t : Fin cfg0.N, win0_1.index t (0 : Fin 2) = 0 ∧ win0_1.index t (1 : Fin 2) = t.val % 28 :=
  (by decide +kernel : ∀ t : Fin grid0.N, _)
/-- Input 1's block at point `t`, read at row `a`, column `b`. -/
theorem iblk1 (c : Dev nD) (t : Fin cfg0.N) (a : Fin 3584) (b : Fin 512) :
    iblk m c 1 t (ix2 a b) = V m c (Pipeline.arrRef spec0 1) (ix2 (n0 := 3584) (n1 := 28672)
      ⟨a.val, by have := t.isLt; have := N896; omega⟩ ⟨512 * (t.val % 28) + b.val, by omega⟩) := by
  obtain ⟨e0, e1⟩ := inIdx1 t
  show V m c (Pipeline.arrRef spec0 1) (((cfg0.win 1).blk t).view.emb (ix2 a b)) = _
  refine congrArg (V m c (Pipeline.arrRef spec0 1)) ?_
  funext d; apply Fin.ext
  match d with
  | ⟨0, _⟩ => show win0_1.index t (0 : Fin 2) * 3584 + 1 * a.val = a.val; rw [e0]; omega
  | ⟨1, _⟩ => show win0_1.index t (1 : Fin 2) * 512 + 1 * b.val = 512 * (t.val % 28) + b.val; rw [e1]; omega

theorem inIdx2 : ∀ t : Fin cfg0.N, win0_2.index t (0 : Fin 2) = 0 ∧ win0_2.index t (1 : Fin 2) = t.val % 28 + 28 :=
  (by decide +kernel : ∀ t : Fin grid0.N, _)
/-- Input 2's block at point `t`, read at row `a`, column `b`. -/
theorem iblk2 (c : Dev nD) (t : Fin cfg0.N) (a : Fin 3584) (b : Fin 512) :
    iblk m c 2 t (ix2 a b) = V m c (Pipeline.arrRef spec0 2) (ix2 (n0 := 3584) (n1 := 28672)
      ⟨a.val, by have := t.isLt; have := N896; omega⟩ ⟨14336 + 512 * (t.val % 28) + b.val, by omega⟩) := by
  obtain ⟨e0, e1⟩ := inIdx2 t
  show V m c (Pipeline.arrRef spec0 2) (((cfg0.win 2).blk t).view.emb (ix2 a b)) = _
  refine congrArg (V m c (Pipeline.arrRef spec0 2)) ?_
  funext d; apply Fin.ext
  match d with
  | ⟨0, _⟩ => show win0_2.index t (0 : Fin 2) * 3584 + 1 * a.val = a.val; rw [e0]; omega
  | ⟨1, _⟩ => show win0_2.index t (1 : Fin 2) * 512 + 1 * b.val = 14336 + 512 * (t.val % 28) + b.val; rw [e1]; omega

theorem inIdx3 : ∀ t : Fin cfg0.N, win0_3.index t (0 : Fin 2) = 0 ∧ win0_3.index t (1 : Fin 2) = t.val % 28 :=
  (by decide +kernel : ∀ t : Fin grid0.N, _)
/-- Input 3's block at point `t`, read at row `a`, column `b`. -/
theorem iblk3 (c : Dev nD) (t : Fin cfg0.N) (a : Fin 1) (b : Fin 512) :
    iblk m c 3 t (ix2 a b) = V m c (Pipeline.arrRef spec0 3) (ix2 (n0 := 1) (n1 := 28672)
      ⟨a.val, by have := t.isLt; have := N896; omega⟩ ⟨512 * (t.val % 28) + b.val, by omega⟩) := by
  obtain ⟨e0, e1⟩ := inIdx3 t
  show V m c (Pipeline.arrRef spec0 3) (((cfg0.win 3).blk t).view.emb (ix2 a b)) = _
  refine congrArg (V m c (Pipeline.arrRef spec0 3)) ?_
  funext d; apply Fin.ext
  match d with
  | ⟨0, _⟩ => show win0_3.index t (0 : Fin 2) * 1 + 1 * a.val = a.val; rw [e0]; omega
  | ⟨1, _⟩ => show win0_3.index t (1 : Fin 2) * 512 + 1 * b.val = 512 * (t.val % 28) + b.val; rw [e1]; omega

theorem inIdx4 : ∀ t : Fin cfg0.N, win0_4.index t (0 : Fin 2) = 0 ∧ win0_4.index t (1 : Fin 2) = t.val % 28 + 28 :=
  (by decide +kernel : ∀ t : Fin grid0.N, _)
/-- Input 4's block at point `t`, read at row `a`, column `b`. -/
theorem iblk4 (c : Dev nD) (t : Fin cfg0.N) (a : Fin 1) (b : Fin 512) :
    iblk m c 4 t (ix2 a b) = V m c (Pipeline.arrRef spec0 4) (ix2 (n0 := 1) (n1 := 28672)
      ⟨a.val, by have := t.isLt; have := N896; omega⟩ ⟨14336 + 512 * (t.val % 28) + b.val, by omega⟩) := by
  obtain ⟨e0, e1⟩ := inIdx4 t
  show V m c (Pipeline.arrRef spec0 4) (((cfg0.win 4).blk t).view.emb (ix2 a b)) = _
  refine congrArg (V m c (Pipeline.arrRef spec0 4)) ?_
  funext d; apply Fin.ext
  match d with
  | ⟨0, _⟩ => show win0_4.index t (0 : Fin 2) * 1 + 1 * a.val = a.val; rw [e0]; omega
  | ⟨1, _⟩ => show win0_4.index t (1 : Fin 2) * 512 + 1 * b.val = 14336 + 512 * (t.val % 28) + b.val; rw [e1]; omega

end Cert.KernelIdeal.Value

end
-- ==== Proof.Scale.lean ====
/- The mathematics both programs compute, on extended reals: a row's power-of-two scale as the reference states it (`qexp`) and as the
   kernel counts it (`kexp`). -/
module

public import Idealize.ShloMosaic.Lib.IdealHost
public import Idealize.ShloMosaic.PureOps.Ideal.Laws
public import Idealize.ShloMosaic.Lib.IndicatorCount

@[expose] public section

noncomputable section

namespace Cert.Swiglu

open Idealize.ShloMosaic

/-- The float constants of the two programs. -/
abbrev zero : EReal := Ideal.ofBits .f32 0x00000000#32
abbrev one : EReal := Ideal.ofBits .f32 0x3F800000#32
abbrev two : EReal := Ideal.ofBits .f32 0x40000000#32
abbrev hi : EReal := Ideal.ofBits .f32 0x42FC0000#32
abbrev lo : EReal := Ideal.ofBits .f32 0xC2FC0000#32
abbrev top : EReal := Ideal.ofBits .f32 0x43E00000#32
abbrev bot : EReal := Ideal.ofBits .f32 0xC3E00000#32
abbrev ninf : EReal := Ideal.ofBits .f32 0xFF800000#32
/-- 1/448, rounded. -/
abbrev rcp : EReal := Ideal.ofBits .f32 0x3B124925#32

/-- The exponent of a row whose largest absolute value is `a`, as the reference states it. -/
def qexp (a : EReal) : EReal :=
  Scalar.select (Ideal.cmp .oeq a zero) zero
    (min hi (max lo (Ideal.liftRound Int.floor (Ideal.div (Ideal.log (a * rcp)) (Ideal.log two)) + one)))
/-- The row's scale, -/
def qscale (a : EReal) : EReal := Ideal.exp2 (qexp a)
/-- and its inverse. -/
def qinv (a : EReal) : EReal := Ideal.exp2 (zero - qexp a)

/-- The float whose exponent field is `k`, all other fields zero. -/
def pow (k : ℕ) : EReal := Ideal.ofBits .f32 (IntOp.shli .vector (BitVec.ofNat 32 k) 23#32)
/-- How many of them are at most `x`. -/
def kcount (x : EReal) : BitVec 32 :=
  BitVec.ofNat 32 (Finset.univ.filter fun k : Fin 256 => Ideal.cmp .ole (pow k.val) x = 1#1).card
/-- The exponent of a row whose largest absolute value is `a`, as the kernel counts it. -/
def kexp (a : EReal) : BitVec 32 :=
  Scalar.select (Ideal.cmp .oeq a zero) 0#32 (IntOp.minsi 126#32 (IntOp.maxsi 4294967170#32 (IntOp.subi (kcount (a * rcp)) 127#32)))
/-- The row's scale, -/
def kscale (a : EReal) : EReal := Ideal.ofBits .f32 (IntOp.shli .vector (IntOp.addi (kexp a) 127#32) 23#32)
/-- and its inverse. -/
def kinv (a : EReal) : EReal := Ideal.ofBits .f32 (IntOp.shli .vector (IntOp.subi 127#32 (kexp a)) 23#32)

/-! ## The constants' values -/

theorem one_eq : one = 1 := Ideal.ofBits_one_f32
theorem zero_eq : zero = 0 := Ideal.ofBits_zero_f32
theorem two_eq : two = ((2 : ℝ) : EReal) := by
  simp [Ideal.ofBits, Ideal.ieee, -EReal.coe_mul, -EReal.coe_neg]; norm_num
theorem hi_eq : hi = ((126 : ℝ) : EReal) := by
  simp [Ideal.ofBits, Ideal.ieee, -EReal.coe_mul, -EReal.coe_neg]; norm_num
theorem lo_eq : lo = ((-126 : ℝ) : EReal) := by
  simp [Ideal.ofBits, Ideal.ieee, -EReal.coe_mul, -EReal.coe_neg]; norm_num
theorem ninf_eq : ninf = ⊥ := by simp [Ideal.ofBits, Ideal.ieee]
theorem rcp_eq : rcp = ((9586981 * (2 : ℝ) ^ (-32 : ℤ) : ℝ) : EReal) := by simp [Ideal.ofBits, Ideal.ieee]

/-! ## The powers of two -/

theorem fields : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem pow_zero : pow 0 = 0 := by
  obtain ⟨h1, h2, h3⟩ := fields 0
  unfold pow Ideal.ofBits Ideal.ieee
  simp only [show ((0 : Fin 256)).val = 0 from rfl] at h1 h2 h3
  simp [h1, h2, h3]

theorem pow_top : pow 255 = ⊤ := by
  obtain ⟨h1, h2, h3⟩ := fields 255
  unfold pow Ideal.ofBits Ideal.ieee
  simp only [show ((255 : Fin 256)).val = 255 from rfl] at h1 h2 h3
  simp [h1, h2, h3]

theorem pow_eq (k : ℕ) (h : 1 ≤ k) (h' : k ≤ 254) : pow k = (((2 : ℝ) ^ ((k : ℤ) - 127) : ℝ) : EReal) := by
  obtain ⟨h1, h2, h3⟩ := fields ⟨k, by omega⟩
  simp only at h1 h2 h3
  unfold pow Ideal.ofBits Ideal.ieee
  simp only [h2, h3, show (23 : ℕ) + 8 = 31 from rfl, show (8 : ℕ) + 23 = 31 from rfl, h1]
  rw [if_neg (by omega), if_neg (by omega)]
  have e : ((2 ^ 23 + 0 : ℕ) : ℝ) = (2 : ℝ) ^ (23 : ℤ) := by norm_num
  have e' : ((k : ℤ) - 127) = 23 + ((k : ℤ) - (2 ^ (8 - 1) - 1) - ((23 : ℕ) : ℤ)) := by push_cast; omega
  rw [e, e', zpow_add₀ (by norm_num)]
  refine congrArg (Real.toEReal) ?_
  simp

/-- A row's exponent on both sides: one integer between −126 and 126. -/
def Same (a : EReal) : Prop := ∃ e : ℤ, -126 ≤ e ∧ e ≤ 126 ∧ kexp a = BitVec.ofInt 32 e ∧ qexp a = ((e : ℝ) : EReal)

theorem words_scale : ∀ k : Fin 253, IntOp.addi (BitVec.ofInt 32 ((k.val : ℤ) - 126)) 127#32 = BitVec.ofNat 32 (k.val + 1) := by
  decide +kernel
theorem words_inv : ∀ k : Fin 253, IntOp.subi 127#32 (BitVec.ofInt 32 ((k.val : ℤ) - 126)) = BitVec.ofNat 32 (253 - k.val) := by
  decide +kernel
theorem words_clip : ∀ m : Fin 257, IntOp.minsi 126#32 (IntOp.maxsi 4294967170#32 (IntOp.subi (BitVec.ofNat 32 m.val) 127#32))
    = BitVec.ofInt 32 (min 126 (max (-126) ((m.val : ℤ) - 127))) := by decide +kernel

theorem exp2_int (e : ℤ) : Ideal.exp2 ((e : ℝ) : EReal) = (((2 : ℝ) ^ e : ℝ) : EReal) := by
  show ((Real.rpow 2 (e : ℝ) : ℝ) : EReal) = _
  rw [Real.rpow_eq_pow, Real.rpow_intCast]

theorem kscale_of_same {a : EReal} (h : Same a) : kscale a = qscale a := by
  obtain ⟨e, h1, h2, hk, hq⟩ := h
  have hw := words_scale ⟨(e + 126).toNat, by omega⟩
  simp only [show (((e + 126).toNat : ℕ) : ℤ) - 126 = e by omega] at hw
  have hp := pow_eq ((e + 126).toNat + 1) (by omega) (by omega)
  rw [show (((e + 126).toNat + 1 : ℕ) : ℤ) - 127 = e by omega] at hp
  unfold kscale qscale
  rw [hk, hq, hw, exp2_int]
  exact hp

theorem kinv_of_same {a : EReal} (h : Same a) : kinv a = qinv a := by
  obtain ⟨e, h1, h2, hk, hq⟩ := h
  have hw := words_inv ⟨(e + 126).toNat, by omega⟩
  simp only [show (((e + 126).toNat : ℕ) : ℤ) - 126 = e by omega] at hw
  have hp := pow_eq (253 - (e + 126).toNat) (by omega) (by omega)
  rw [show ((253 - (e + 126).toNat : ℕ) : ℤ) - 127 = -e by omega] at hp
  unfold kinv qinv
  have hz : zero - ((e : ℝ) : EReal) = (((-e : ℤ) : ℝ) : EReal) := by
    rw [zero_eq, zero_sub, Int.cast_neg, EReal.coe_neg]
  rw [hk, hq, hw, hz, exp2_int]
  exact hp

theorem select_pos {α : Type} (p : Prop) [Decidable p] (h : p) (x y : α) : Scalar.select (BitVec.ofBool (decide p)) x y = x := by
  rw [decide_eq_true h]; rfl
theorem select_neg {α : Type} (p : Prop) [Decidable p] (h : ¬p) (x y : α) : Scalar.select (BitVec.ofBool (decide p)) x y = y := by
  rw [decide_eq_false h]; rfl

theorem same_zero : Same 0 := by
  refine ⟨0, by norm_num, by norm_num, ?_, ?_⟩
  · unfold kexp
    exact select_pos (0 = zero) zero_eq.symm _ _
  · unfold qexp
    refine (select_pos (0 = zero) zero_eq.symm _ _).trans ?_
    rw [zero_eq]; simp

/-- The count of an initial segment of 256 thresholds. -/
theorem card_lt (m : ℕ) (h : m ≤ 256) : (Finset.univ.filter fun k : Fin 256 => k.val < m).card = m := by
  rw [Fin.card_filter_val_lt]; omega

/-- Thresholds met by `x`, when those are the first `m`, as an exponent. -/
theorem kexp_of_count {a : EReal} (ha : a ≠ 0) (m : ℕ) (hm : m ≤ 256)
    (h : ∀ k : Fin 256, pow k.val ≤ a * rcp ↔ k.val < m) :
    kexp a = BitVec.ofInt 32 (min 126 (max (-126) ((m : ℤ) - 127))) := by
  have hc : kcount (a * rcp) = BitVec.ofNat 32 m := by
    unfold kcount
    rw [show (Finset.univ.filter fun k : Fin 256 => Ideal.cmp .ole (pow k.val) (a * rcp) = 1#1)
      = Finset.univ.filter fun k : Fin 256 => k.val < m from Finset.filter_congr fun k _ => by
        rw [← h k]
        show BitVec.ofBool (decide (pow k.val ≤ a * rcp)) = 1#1 ↔ _
        by_cases hk : pow k.val ≤ a * rcp
        · rw [decide_eq_true hk]; exact iff_of_true rfl hk
        · rw [decide_eq_false hk]; exact iff_of_false (by decide) hk, card_lt m hm]
  unfold kexp
  refine (select_neg (a = zero) (by rw [zero_eq]; exact ha) _ _).trans ?_
  rw [hc]
  exact words_clip ⟨m, by omega⟩

theorem rcp_pos : (0 : ℝ) < 9586981 * (2 : ℝ) ^ (-32 : ℤ) := by positivity

theorem log_two_eq : Ideal.log two = ((Real.log 2 : ℝ) : EReal) := by
  rw [two_eq]
  show (if (2 : ℝ) ≤ 0 then (⊥ : EReal) else ((Real.log 2 : ℝ) : EReal)) = _
  rw [if_neg (by norm_num)]

theorem log_two_pos : (0 : ℝ) < Real.log 2 := Real.log_pos (by norm_num)

theorem coe_log_two_ne : ((Real.log 2 : ℝ) : EReal) ≠ 0 := fun h => log_two_pos.ne' (EReal.coe_eq_zero.mp h)

theorem same_top : Same ⊤ := by
  have hx : (⊤ : EReal) * rcp = ⊤ := by rw [rcp_eq]; exact EReal.top_mul_coe_of_pos rcp_pos
  refine ⟨126, by norm_num, by norm_num, ?_, ?_⟩
  · rw [kexp_of_count (by simp) 256 le_rfl fun k => by rw [hx]; simp [k.isLt]]
    norm_num
  · unfold qexp
    refine (select_neg ((⊤ : EReal) = zero) (by rw [zero_eq]; simp) _ _).trans ?_
    rw [hx, log_two_eq]
    show min hi (max lo (Ideal.liftRound Int.floor (Ideal.div ⊤ ((Real.log 2 : ℝ) : EReal)) + one)) = _
    unfold Ideal.div
    rw [if_neg coe_log_two_ne, ← EReal.coe_inv, EReal.top_mul_coe_of_pos (inv_pos.mpr log_two_pos)]
    show min hi (max lo ((⊤ : EReal) + one)) = _
    rw [one_eq, hi_eq, EReal.top_add_of_ne_bot (by rw [← EReal.coe_one]; exact EReal.coe_ne_bot 1), max_eq_right le_top, min_eq_left le_top]
    simp

theorem same_coe (r : ℝ) (hr : 0 < r) : Same (r : EReal) := by
  obtain ⟨x, hx0, hx⟩ : ∃ x : ℝ, 0 < x ∧ (r : EReal) * rcp = (x : EReal) :=
    ⟨r * (9586981 * (2 : ℝ) ^ (-32 : ℤ)), mul_pos hr rcp_pos, by rw [rcp_eq, ← EReal.coe_mul]⟩
  have h0 : (r : EReal) ≠ 0 := fun h => hr.ne' (EReal.coe_eq_zero.mp h)
  obtain ⟨n, hn⟩ : ∃ n : ℤ, ⌊Real.log x / Real.log 2⌋ = n := ⟨_, rfl⟩
  have key (z : ℤ) : (2 : ℝ) ^ z ≤ x ↔ z ≤ n := by
    rw [← hn, Int.le_floor, le_div_iff₀ log_two_pos, ← Real.log_zpow, Real.log_le_log_iff (by positivity) hx0]
  refine ⟨min 126 (max (-126) (n + 1)), by omega, by omega, ?_, ?_⟩
  · rw [kexp_of_count h0 (max 1 (min 255 (n + 128))).toNat (by omega) fun k => ?_]
    · congr 1; omega
    · rw [hx]
      obtain ⟨k, hk⟩ := k
      show pow k ≤ _ ↔ k < _
      rcases Nat.eq_zero_or_pos k with rfl | hk1
      · rw [pow_zero]
        exact iff_of_true (EReal.coe_nonneg.mpr hx0.le) (by omega)
      · rcases Nat.lt_or_ge k 255 with hk2 | hk2
        · rw [pow_eq k hk1 (by omega), EReal.coe_le_coe_iff, key]
          omega
        · obtain rfl : k = 255 := by omega
          rw [pow_top]
          exact iff_of_false (by simp) (by omega)
  · unfold qexp
    refine (select_neg ((r : EReal) = zero) (by rw [zero_eq]; exact h0) _ _).trans ?_
    have hl : Ideal.log (x : EReal) = ((Real.log x : ℝ) : EReal) := by
      show (if x ≤ 0 then (⊥ : EReal) else ((Real.log x : ℝ) : EReal)) = _
      rw [if_neg (not_le.mpr hx0)]
    have hd : Ideal.div ((Real.log x : ℝ) : EReal) ((Real.log 2 : ℝ) : EReal) = ((Real.log x / Real.log 2 : ℝ) : EReal) := by
      unfold Ideal.div
      rw [if_neg coe_log_two_ne, ← EReal.coe_inv, ← EReal.coe_mul, div_eq_mul_inv]
    have hf : Ideal.liftRound Int.floor ((Real.log x / Real.log 2 : ℝ) : EReal) = ((n : ℝ) : EReal) := by
      show (((⌊Real.log x / Real.log 2⌋ : ℤ) : ℝ) : EReal) = _
      rw [hn]
    rw [hx, log_two_eq, hl, hd, hf, one_eq, hi_eq, lo_eq, ← EReal.coe_one, ← EReal.coe_add,
      ← EReal.coe_strictMono.monotone.map_max, ← EReal.coe_strictMono.monotone.map_min]
    push_cast
    rfl

theorem same {a : EReal} (h : 0 ≤ a) : Same a := by
  rcases eq_or_ne a 0 with rfl | h0
  · exact same_zero
  · induction a using EReal.rec with
    | bot => exact absurd h (by simp)
    | top => exact same_top
    | coe r => exact same_coe r (lt_of_le_of_ne (EReal.coe_nonneg.mp h) fun e => h0 (by rw [← e]; rfl))

/-- The kernel's scale of a row is the reference's, -/
theorem kscale_eq {a : EReal} (h : 0 ≤ a) : kscale a = qscale a := kscale_of_same (same h)
/-- and so is its inverse. -/
theorem kinv_eq {a : EReal} (h : 0 ≤ a) : kinv a = qinv a := kinv_of_same (same h)

end Cert.Swiglu

end
-- ==== Proof.Spec.lean ====
/- What the two programs compute of a token: the quantised row, the product with the weights scaled back, the gated hidden row, and that
   row quantised again — on extended reals, by plain coordinates. -/
module

public import proofs.«01_k».proof.Proof.Scale

@[expose] public section

noncomputable section

namespace Cert.Swiglu

open Idealize.ShloMosaic

/-- An absolute value. -/
abbrev abs' (x : EReal) : EReal := max x (-x)

/-- The largest absolute value of a row. -/
def rowmax {n : ℕ} (f : Fin n → EReal) : EReal := Finset.univ.fold max ninf fun k => abs' (f k)

/-- A value's code under the scale of a row whose largest absolute value is `a`. -/
def code (v a : EReal) : EReal := min top (max bot (v * qinv a))

/-- One element of the projection: the codes times the weight's column, by the token's scale, by the column's. -/
def lin (x : Fin 3584 → EReal) (W : Fin 3584 → Fin 28672 → EReal) (S : Fin 28672 → EReal) (n : Fin 28672) : EReal :=
  (zero + ∑ k : Fin 3584, code (x k) (rowmax x) * W k n) * qscale (rowmax x) * S n

/-- One element of the hidden row: the gate's silu times the up half. -/
def hid (x : Fin 3584 → EReal) (W : Fin 3584 → Fin 28672 → EReal) (S : Fin 28672 → EReal) (n : Fin 14336) : EReal :=
  lin x W S ⟨n.val, by omega⟩ * Ideal.logistic (lin x W S ⟨n.val, by omega⟩) * lin x W S ⟨14336 + n.val, by omega⟩

theorem abs'_nonneg (x : EReal) : 0 ≤ abs' x := by
  rcases le_total 0 x with h | h
  · exact le_max_of_le_left h
  · exact le_max_of_le_right (EReal.neg_nonneg.mpr h)

theorem rowmax_le_iff {n : ℕ} (f : Fin n → EReal) (z : EReal) : rowmax f ≤ z ↔ ∀ k, abs' (f k) ≤ z := by
  unfold rowmax
  rw [Finset.fold_max_le, ninf_eq]
  simp

theorem rowmax_nonneg {n : ℕ} (f : Fin (n + 1) → EReal) : 0 ≤ rowmax f :=
  (abs'_nonneg (f 0)).trans ((rowmax_le_iff f _).mp le_rfl 0)

/-- The largest absolute value of a row of 14336, kept lane by lane over 28 tiles of 512 columns — column `128 * s + l` of a tile on lane
    `l` — and then taken across the 128 lanes, is the row's. -/
theorem lanes_eq (h : Fin 14336 → EReal) (A : ℕ → Fin 128 → EReal) (h0 : ∀ l, A 0 l = zero)
    (hs : ∀ j, j < 28 → ∀ l, A (j + 1) l = max (A j l) (Finset.univ.fold max ninf fun s : Fin 4 =>
      abs' (h ⟨(512 * j + (128 * s.val + l.val)) % 14336, Nat.mod_lt _ (by decide)⟩))) :
    Finset.univ.fold max ninf (A 28) = rowmax h := by
  have hA (z : EReal) (l : Fin 128) : ∀ j, j ≤ 28 → (A j l ≤ z ↔ 0 ≤ z ∧ ∀ j' < j, ∀ s : Fin 4,
      abs' (h ⟨(512 * j' + (128 * s.val + l.val)) % 14336, Nat.mod_lt _ (by decide)⟩) ≤ z) := by
    intro j
    induction j with
    | zero => intro _; rw [h0, zero_eq]; simp
    | succ j ih =>
      intro hj
      rw [hs j (by omega), max_le_iff, ih (by omega), Finset.fold_max_le, ninf_eq]
      constructor
      · rintro ⟨⟨hz, h1⟩, -, h2⟩
        refine ⟨hz, fun j' hj' s => ?_⟩
        rcases Nat.lt_succ_iff_lt_or_eq.mp hj' with hlt | rfl
        · exact h1 j' hlt s
        · exact h2 s (Finset.mem_univ _)
      · rintro ⟨hz, h1⟩
        exact ⟨⟨hz, fun j' hj' => h1 j' (by omega)⟩, bot_le, fun s _ => h1 j (by omega) s⟩
  refine eq_of_forall_ge_iff fun z => ?_
  rw [rowmax_le_iff, Finset.fold_max_le, ninf_eq]
  constructor
  · rintro ⟨-, hl⟩ n
    have := ((hA z ⟨n.val % 128, by omega⟩ 28 le_rfl).mp (hl _ (Finset.mem_univ _))).2 (n.val / 512) (by omega)
      ⟨n.val % 512 / 128, by omega⟩
    have e : (⟨(512 * (n.val / 512) + (128 * (n.val % 512 / 128) + n.val % 128)) % 14336, Nat.mod_lt _ (by decide)⟩ : Fin 14336) = n :=
      Fin.ext (by show (512 * (n.val / 512) + (128 * (n.val % 512 / 128) + n.val % 128)) % 14336 = n.val; omega)
    rw [e] at this
    exact this
  · intro hn
    exact ⟨bot_le, fun l _ => (hA z l 28 le_rfl).mpr ⟨(abs'_nonneg (h 0)).trans (hn 0), fun j' _ s => hn _⟩⟩

end Cert.Swiglu

end
-- ==== Proof.Reads.lean ====
/- Readings of the vector operations both programs use, at an index written by its coordinates. -/
module

public import proofs.«01_k».proof.Proof.Spec
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Swiglu

open Idealize.ShloMosaic Idealize.ShloMosaic.ValueIdx

theorem lift_row {a b : ℕ} (h : (⟨2, ![a, b]⟩ : Shape).Reduces [1] ⟨1, ![a]⟩) (r : Fin a) (k : Fin b) : h.lift (ix1 r) k = ix2 r k := by
  funext c
  apply Fin.ext
  match c with
  | ⟨0, _⟩ => rfl
  | ⟨1, _⟩ => rfl

/-- The maximum along the columns. -/
theorem max_row {a b : ℕ} (h : (⟨2, ![a, b]⟩ : Shape).Reduces [1] ⟨1, ![a]⟩) (src : FVec Ideal ⟨2, ![a, b]⟩ .f32) (hφ : FKind.Formats .f32)
    (hacc : 0xFF800000#32 = FKind.maximumf.neutral .f32 hφ) (r : Fin a) :
    multiReduction .maximumf [1] ⟨1, ![a]⟩ src 0xFF800000#32 h hφ hacc (ix1 r) = Finset.univ.fold max ninf fun k : Fin b => src (ix2 r k) := by
  rw [Ideal.multiReduction_maximumf_single]
  show Finset.univ.fold max ninf (fun k : Fin b => src (h.lift (ix1 r) k)) = _
  simp only [lift_row]

/-- The maximum over a middle axis. -/
theorem lift_mid {a b d : ℕ} (h : (⟨3, ![a, b, d]⟩ : Shape).Reduces [1] ⟨2, ![a, d]⟩) (r : Fin a) (l : Fin d) (k : Fin b) :
    h.lift (ix2 r l) k = ix3 r k l := by
  funext c
  apply Fin.ext
  match c with
  | ⟨0, _⟩ => rfl
  | ⟨1, _⟩ => rfl
  | ⟨2, _⟩ => rfl

theorem max_mid {a b d : ℕ} (h : (⟨3, ![a, b, d]⟩ : Shape).Reduces [1] ⟨2, ![a, d]⟩) (src : FVec Ideal ⟨3, ![a, b, d]⟩ .f32)
    (hφ : FKind.Formats .f32) (hacc : 0xFF800000#32 = FKind.maximumf.neutral .f32 hφ) (r : Fin a) (l : Fin d) :
    multiReduction .maximumf [1] ⟨2, ![a, d]⟩ src 0xFF800000#32 h hφ hacc (ix2 r l)
      = Finset.univ.fold max ninf fun k : Fin b => src (ix3 r k l) := by
  rw [Ideal.multiReduction_maximumf_single]
  show Finset.univ.fold max ninf (fun k : Fin b => src (h.lift (ix2 r l) k)) = _
  simp only [lift_mid]

/-- How many of a row's bits are set. -/
theorem count_row {a b : ℕ} (h : (⟨2, ![a, b]⟩ : Shape).Reduces [1] ⟨1, ![a]⟩) (p : IVec ⟨2, ![a, b]⟩ 1) (hw : 1 < 32)
    (hacc : 0#32 = IKind.add.neutral) (r : Fin a) :
    multiReductionI .add [1] ⟨1, ![a]⟩ (extui 32 p hw) 0#32 h hacc (ix1 r)
      = BitVec.ofNat 32 (Finset.univ.filter fun k : Fin b => p (ix2 r k) = 1#1).card := by
  rw [multiReductionI_eq_fold]
  refine (h.fold_filter_drop_single IntOp.addi _ _ _).trans ?_
  show Finset.univ.fold IntOp.addi 0#32 (fun k : Fin b => (p (h.lift (ix1 r) k)).setWidth 32) = _
  simp only [lift_row]
  exact IndicatorCount.fold_addi_setWidth_eq_card (fun k : Fin b => p (ix2 r k)) Finset.univ

/-- A column spread over the columns. -/
theorem spread {α : Type} {a b : ℕ} (v : (⟨2, ![a, 1]⟩ : Shape).Idx → α) (h : (⟨2, ![a, 1]⟩ : Shape).Broadcasts ⟨2, ![a, b]⟩) (r : Fin a)
    (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    have := r.isLt
    split <;> omega
  | ⟨1, _⟩ => rfl

/-- A row of 512 seen as four rows of 128 lanes. -/
theorem fold_lanes {α : Type} (v : (⟨2, ![256, 512]⟩ : Shape).Idx → α) (h : (⟨2, ![256, 512]⟩ : Shape).ShapeCasts ⟨3, ![256, 4, 128]⟩)
    (r : Fin 256) (s : Fin 4) (l : Fin 128) :
    shapeCast ⟨3, ![256, 4, 128]⟩ v h (ix3 r s l) = v (ix2 r (⟨128 * s.val + l.val, by omega⟩ : Fin 512)) := by
  refine shapeCast_apply v h _ _ ?_
  rw [Shape.rowMajor_val_two, Shape.rowMajor_val_three]
  show r.val * 512 + (128 * s.val + l.val) = (r.val * 4 + s.val) * 128 + l.val
  omega

/-! ## The arguments by coordinates, and the four results -/

/-- Token `i`'s row. -/
def X (a0 : (⟨3, ![8, 1024, 3584]⟩ : Shape).Idx → EReal) (i : Fin 8192) (k : Fin 3584) : EReal :=
  a0 (ix3 (⟨i.val / 1024, by omega⟩ : Fin 8) (⟨i.val % 1024, by omega⟩ : Fin 1024) k)
/-- The weights. -/
def W (a1 : (⟨2, ![3584, 28672]⟩ : Shape).Idx → EReal) (k : Fin 3584) (n : Fin 28672) : EReal := a1 (ix2 k n)
/-- The weights' column scales. -/
def S (a2 : (⟨1, ![28672]⟩ : Shape).Idx → EReal) (n : Fin 28672) : EReal := a2 (ix1 n)

section
variable (a0 : (⟨3, ![8, 1024, 3584]⟩ : Shape).Idx → EReal) (a1 : (⟨2, ![3584, 28672]⟩ : Shape).Idx → EReal)
  (a2 : (⟨1, ![28672]⟩ : Shape).Idx → EReal)

/-- Token `i`'s hidden row. -/
def hrow (i : Fin 8192) : Fin 14336 → EReal := hid (X a0 i) (W a1) (S a2)
/-- The hidden rows' scales, -/
def R0 : (⟨2, ![8192, 1]⟩ : Shape).Idx → EReal := fun i => qscale (rowmax (hrow a0 a1 a2 (i 0)))
/-- their codes, -/
def R1 : (⟨2, ![8192, 14336]⟩ : Shape).Idx → EReal := fun i => code (hrow a0 a1 a2 (i 0) (i 1)) (rowmax (hrow a0 a1 a2 (i 0)))
/-- the tokens' codes, -/
def R2 : (⟨2, ![8192, 3584]⟩ : Shape).Idx → EReal := fun i => code (X a0 (i 0) (i 1)) (rowmax (X a0 (i 0)))
/-- and their scales. -/
def R3 : (⟨2, ![8192, 1]⟩ : Shape).Idx → EReal := fun i => qscale (rowmax (X a0 (i 0)))

/-- The tokens in one axis. -/
theorem tokens_apply (h : (⟨3, ![8, 1024, 3584]⟩ : Shape).ShapeCasts ⟨2, ![8192, 3584]⟩) (i : Fin 8192) (k : Fin 3584) :
    shapeCast ⟨2, ![8192, 3584]⟩ a0 h (ix2 i k) = X a0 i k := by
  refine shapeCast_apply a0 h _ _ ?_
  rw [Shape.rowMajor_val_three, Shape.rowMajor_val_two]
  show (i.val / 1024 * 1024 + i.val % 1024) * 3584 + k.val = i.val * 3584 + k.val
  rw [Nat.div_add_mod']

/-- The column scales as one row. -/
theorem scales_apply (h : (⟨1, ![28672]⟩ : Shape).ShapeCasts ⟨2, ![1, 28672]⟩) (u : Fin 1) (n : Fin 28672) :
    shapeCast ⟨2, ![1, 28672]⟩ a2 h (ix2 u n) = S a2 n := shapeCast_a_1a_apply a2 h u n

end

end Cert.Swiglu

end
-- ==== Proof.KernelReads.lean ====
/- The kernel's payloads read at an index, on extended reals. -/
module

public import proofs.«01_k».proof.Proof.Gen.KernelIdeal.Skeleton
public import proofs.«01_k».proof.Proof.Spec
public import proofs.«01_k».proof.Proof.Reads

@[expose] public section

noncomputable section

namespace Cert.KernelIdeal.Value

open Cert.KernelIdeal Cert.KernelIdeal.Gen Idealize.ShloMosaic Idealize.ShloMosaic.ValueIdx Cert.Swiglu

/-- The thresholds a block's rows meet: the kernel's text, on one column. -/
def vmeet (A : FVec Ideal S256x1 .f32) : IVec S256x256 1 :=
  cmpf .ole (bitcastToFloat (F := Ideal) .f32 (shli (iota .tc S256x256 32 [1] iota_S256x256_d1_w32) (broadcast S256x256 23#32)))
    (broadcastTo S256x256 (mulf A (broadcast S256x1 (Scalar.ofBits .f32 0x3B124925#32))) broadcasts_S256x1_S256x256)
/-- How many they are. -/
def vcount (A : FVec Ideal S256x1 .f32) : IVec S256x1 32 :=
  shapeCast S256x1 (multiReductionI .add [1] S256 (extui 32 (vmeet A) natLt_1_32) 0#32 reduces_S256x256_S256 rfl) shapeCasts_S256_S256x1
/-- The rows' exponents. -/
def vexp (A : FVec Ideal S256x1 .f32) : IVec S256x1 32 :=
  select (cmpf .oeq A (broadcast S256x1 (Scalar.ofBits .f32 0x00000000#32))) (broadcast S256x1 0#32)
    (minsi (broadcast S256x1 126#32) (maxsi (broadcast S256x1 4294967170#32) (subi (vcount A) (broadcast S256x1 127#32))))

theorem iota_apply (r k : Fin 256) : iota .tc S256x256 32 [1] iota_S256x256_d1_w32 (ix2 r k) = BitVec.ofNat 32 k.val :=
  iota_single_apply .tc S256x256 32 1 _ (ix2 r k)

theorem vmeet_apply (A : FVec Ideal S256x1 .f32) (r k : Fin 256) :
    vmeet A (ix2 r k) = Ideal.cmp .ole (pow k.val) (A (ix2 r (0 : Fin 1)) * rcp) := by
  have hs : broadcastTo S256x256 (mulf A (broadcast S256x1 (Scalar.ofBits .f32 0x3B124925#32))) broadcasts_S256x1_S256x256 (ix2 r k)
      = mulf A (broadcast S256x1 (Scalar.ofBits .f32 0x3B124925#32)) (ix2 r (0 : Fin 1)) := spread (a := 256) (b := 256) _ _ r k
  unfold vmeet
  rw [cmpf_apply, hs]
  unfold pow
  rw [← iota_apply r k]
  rfl

theorem vcount_apply (A : FVec Ideal S256x1 .f32) (r : Fin 256) : vcount A (ix2 r (0 : Fin 1)) = kcount (A (ix2 r (0 : Fin 1)) * rcp) := by
  unfold vcount kcount
  refine (shapeCast_a_a1_apply (a := 256) _ _ r 0).trans ?_
  refine (count_row (a := 256) (b := 256) _ (vmeet A) _ rfl r).trans ?_
  simp only [vmeet_apply]

/-- A row's exponent is the count's. -/
theorem vexp_apply (A : FVec Ideal S256x1 .f32) (r : Fin 256) : vexp A (ix2 r (0 : Fin 1)) = kexp (A (ix2 r (0 : Fin 1))) := by
  unfold kexp
  rw [← vcount_apply A r]
  rfl

/-- A row's largest absolute value, as the kernel takes it. -/
def amax (x : Vec Ideal S256x3584 .bf16) : FVec Ideal S256x1 .f32 :=
  shapeCast S256x1 (multiReduction .maximumf [1] S256 (absf (k0_pay3 x)) 0xFF800000#32 reduces_S256x3584_S256 (.inl rfl) rfl)
    shapeCasts_S256_S256x1

theorem pay3_apply (x : Vec Ideal S256x3584 .bf16) : k0_pay3 x = x := by
  show shapeCast S256x3584 x shapeCasts_S256x3584_S256x3584 = x
  exact shapeCast_self _ _

theorem amax_apply (x : Vec Ideal S256x3584 .bf16) (r : Fin 256) : amax x (ix2 r (0 : Fin 1)) = rowmax fun k : Fin 3584 => x (ix2 r k) := by
  refine (shapeCast_a_a1_apply (a := 256) _ _ r 0).trans ?_
  refine (max_row (a := 256) (b := 3584) _ _ (.inl rfl) rfl r).trans ?_
  rw [pay3_apply]
  rfl

theorem pay4_eq (x : Vec Ideal S256x3584 .bf16) : k0_pay4 x = vexp (amax x) := rfl

theorem pay4_apply (x : Vec Ideal S256x3584 .bf16) (r : Fin 256) :
    k0_pay4 x (ix2 r (0 : Fin 1)) = kexp (rowmax fun k : Fin 3584 => x (ix2 r k)) := by
  rw [pay4_eq, vexp_apply, amax_apply]

/-- A token's scale. -/
theorem pay5_apply (x : Vec Ideal S256x3584 .bf16) (r : Fin 256) :
    k0_pay5 x (ix2 r (0 : Fin 1)) = qscale (rowmax fun k : Fin 3584 => x (ix2 r k)) := by
  show Ideal.ofBits .f32 (IntOp.shli .vector (IntOp.addi (k0_pay4 x (ix2 r (0 : Fin 1))) 127#32) 23#32) = _
  rw [pay4_apply]
  exact kscale_eq (rowmax_nonneg _)

/-- A token's codes. -/
theorem pay6_apply (x : Vec Ideal S256x3584 .bf16) (r : Fin 256) (k : Fin 3584) :
    k0_pay10 (k0_pay6 x) (ix2 r k) = code (x (ix2 r k)) (rowmax fun k : Fin 3584 => x (ix2 r k)) := by
  show min top (max bot (k0_pay3 x (ix2 r k) * broadcastTo S256x3584 (bitcastToFloat (F := Ideal) .f32 (shli (subi (broadcast S256x1 127#32) (k0_pay4 x))
    (broadcast S256x1 23#32))) broadcasts_S256x1_S256x3584 (ix2 r k))) = _
  rw [pay3_apply, show broadcastTo S256x3584 (bitcastToFloat (F := Ideal) .f32 (shli (subi (broadcast S256x1 127#32) (k0_pay4 x))
    (broadcast S256x1 23#32))) broadcasts_S256x1_S256x3584 (ix2 r k)
      = Ideal.ofBits .f32 (IntOp.shli .vector (IntOp.subi 127#32 (k0_pay4 x (ix2 r (0 : Fin 1)))) 23#32) from spread (a := 256) (b := 3584) _ _ r k,
    pay4_apply, show Ideal.ofBits .f32 (IntOp.shli .vector (IntOp.subi 127#32 (kexp (rowmax fun k : Fin 3584 => x (ix2 r k)))) 23#32)
      = qinv (rowmax fun k : Fin 3584 => x (ix2 r k)) from kinv_eq (rowmax_nonneg _)]
  rfl

/-- The hidden row's exponent, from the lanes' maxima. -/
theorem pay7_apply (A : Vec Ideal S256x128 .f32) (r : Fin 256) :
    k0_pay7 A (ix2 r (0 : Fin 1)) = kexp (Finset.univ.fold max ninf fun l : Fin 128 => A (ix2 r l)) := by
  have e : k0_pay7 A = vexp (shapeCast S256x1 (multiReduction .maximumf [1] S256 A 0xFF800000#32 reduces_S256x128_S256 (.inl rfl) rfl)
    shapeCasts_S256_S256x1) := rfl
  rw [e, vexp_apply]
  refine congrArg kexp ?_
  refine (shapeCast_a_a1_apply (a := 256) _ _ r 0).trans ?_
  exact max_row (a := 256) (b := 128) _ _ (.inl rfl) rfl r

/-- The hidden row's scale, -/
theorem pay8_apply (A : Vec Ideal S256x128 .f32) (r : Fin 256) (a : EReal)
    (ha : (Finset.univ.fold max ninf fun l : Fin 128 => A (ix2 r l)) = a) (h0 : 0 ≤ a) : k0_pay8 A (ix2 r (0 : Fin 1)) = qscale a := by
  show Ideal.ofBits .f32 (IntOp.shli .vector (IntOp.addi (k0_pay7 A (ix2 r (0 : Fin 1))) 127#32) 23#32) = _
  rw [pay7_apply, ha]
  exact kscale_eq h0

/-- and its codes. -/
theorem pay2_apply (A : Vec Ideal S256x128 .f32) (H : Vec Ideal S256x14336 .f32) (r : Fin 256) (n : Fin 14336) (a : EReal)
    (ha : (Finset.univ.fold max ninf fun l : Fin 128 => A (ix2 r l)) = a) (h0 : 0 ≤ a) :
    k0_pay2 (k0_pay9 A H) (Scalar.ofBits .f32 0xC3E00000#32) (Scalar.ofBits .f32 0x43E00000#32) (ix2 r n) = code (H (ix2 r n)) a := by
  show min top (max bot (H (ix2 r n) * broadcastTo S256x14336 (bitcastToFloat (F := Ideal) .f32 (shli (subi (broadcast S256x1 127#32) (k0_pay7 A))
    (broadcast S256x1 23#32))) broadcasts_S256x1_S256x14336 (ix2 r n))) = _
  rw [show broadcastTo S256x14336 (bitcastToFloat (F := Ideal) .f32 (shli (subi (broadcast S256x1 127#32) (k0_pay7 A))
    (broadcast S256x1 23#32))) broadcasts_S256x1_S256x14336 (ix2 r n)
      = Ideal.ofBits .f32 (IntOp.shli .vector (IntOp.subi 127#32 (k0_pay7 A (ix2 r (0 : Fin 1)))) 23#32) from spread (a := 256) (b := 14336) _ _ r n,
    pay7_apply, ha, show Ideal.ofBits .f32 (IntOp.shli .vector (IntOp.subi 127#32 (kexp a)) 23#32) = qinv a from kinv_eq h0]
  rfl

/-- One half of a tile. -/
def half (xc : Vec Ideal S256x3584 .fp8e4m3) (xs : Vec Ideal S256x1 .f32) (w : Vec Ideal S3584x512 .fp8e4m3)
    (s : Vec Ideal S1x512 .f32) : FVec Ideal S256x512 .f32 :=
  mulf (mulf (matmul (F := Ideal) (φ₁ := .fp8e4m3) (φ₂ := .fp8e4m3) dot_S256x3584_S3584x512_S256x512_1_0_0_1_n_n none (shapeCast S256x3584 xc shapeCasts_S256x3584_S256x3584) w
        (constant S256x512 .f32 0x00000000#32))
      (broadcastTo S256x512 (shapeCast S256x1 xs shapeCasts_S256x1_S256x1) broadcasts_S256x1_S256x512))
      (broadcastTo S256x512 (shapeCast S1x512 s shapeCasts_S1x512_S1x512) broadcasts_S1x512_S256x512)

theorem half_apply (xc : Vec Ideal S256x3584 .fp8e4m3) (xs : Vec Ideal S256x1 .f32) (w : Vec Ideal S3584x512 .fp8e4m3)
    (s : Vec Ideal S1x512 .f32) (r : Fin 256) (n : Fin 512) :
    half xc xs w s (ix2 r n)
    = (zero + ∑ k : Fin 3584, xc (ix2 r k) * w (ix2 k n)) * xs (ix2 r (0 : Fin 1)) * s (ix2 (0 : Fin 1) n) := by
  unfold half
  rw [shapeCast_self, shapeCast_self, shapeCast_self]
  show FloatOps.matmul (F := Ideal) (φ₁ := .fp8e4m3) (φ₂ := .fp8e4m3) (DotDims.plain 256 3584 512) none xc w (constant (F := Ideal) S256x512 .f32 0x00000000#32) (ix2 r n)
    * broadcastTo S256x512 xs broadcasts_S256x1_S256x512 (ix2 r n) * broadcastTo S256x512 s broadcasts_S1x512_S256x512 (ix2 r n) = _
  rw [Ideal.matmul_plain_apply, show broadcastTo S256x512 xs broadcasts_S256x1_S256x512 (ix2 r n) = xs (ix2 r (0 : Fin 1)) from
      spread (a := 256) (b := 512) _ _ r n,
    show broadcastTo S256x512 s broadcasts_S1x512_S256x512 (ix2 r n) = s (ix2 (0 : Fin 1) n) from
      broadcastTo_1b_ab_apply (a := 256) (b := 512) _ _ r n]
  rfl

/-- A tile of the hidden rows. -/
theorem pay12_apply (xc : Vec Ideal S256x3584 .fp8e4m3) (xs : Vec Ideal S256x1 .f32) (wg wu : Vec Ideal S3584x512 .fp8e4m3)
    (sg su : Vec Ideal S1x512 .f32) (r : Fin 256) (n : Fin 512) (g u : EReal)
    (hg : (zero + ∑ k : Fin 3584, xc (ix2 r k) * wg (ix2 k n)) * xs (ix2 r (0 : Fin 1)) * sg (ix2 (0 : Fin 1) n) = g)
    (hu : (zero + ∑ k : Fin 3584, xc (ix2 r k) * wu (ix2 k n)) * xs (ix2 r (0 : Fin 1)) * su (ix2 (0 : Fin 1) n) = u) :
    k0_pay12 xc xs wg wu sg su (ix2 r n) = g * Ideal.logistic g * u := by
  rw [← hg, ← hu, ← half_apply xc xs wg sg r n, ← half_apply xc xs wu su r n]
  rfl

theorem pay13_apply (xc : Vec Ideal S256x3584 .fp8e4m3) (xs : Vec Ideal S256x1 .f32) (wg wu : Vec Ideal S3584x512 .fp8e4m3)
    (sg su : Vec Ideal S1x512 .f32) : k0_pay13 xc xs wg wu sg su = k0_pay12 xc xs wg wu sg su := shapeCast_self _ _

/-- A tile's maxima, lane by lane. -/
theorem pay14_apply (xc : Vec Ideal S256x3584 .fp8e4m3) (xs : Vec Ideal S256x1 .f32) (wg wu : Vec Ideal S3584x512 .fp8e4m3)
    (sg su : Vec Ideal S1x512 .f32) (r : Fin 256) (l : Fin 128) :
    k0_pay14 xc xs wg wu sg su (ix2 r l)
      = Finset.univ.fold max ninf fun s : Fin 4 => abs' (k0_pay12 xc xs wg wu sg su (ix2 r (⟨128 * s.val + l.val, by omega⟩ : Fin 512))) := by
  refine (max_mid (a := 256) (b := 4) (d := 128) _ _ (.inl rfl) rfl r l).trans ?_
  refine congrArg (Finset.univ.fold max ninf) (funext fun s => ?_)
  exact fold_lanes _ _ r s l

end Cert.KernelIdeal.Value

end
-- ==== Proof.KernelSpec.lean ====
/- The kernel's four result arrays are the four results of `Cert.Swiglu`. -/
module

public import proofs.«01_k».proof.Proof.KernelIdealValue
public import proofs.«01_k».proof.Proof.KernelReads

@[expose] public section

noncomputable section

namespace Cert.KernelIdeal.Value

open Cert.KernelIdeal Cert.KernelIdeal.Gen Idealize.ShloMosaic Idealize.ShloMosaic.TcCoe Idealize.SL.Sem Idealize.ShloMosaic.ValueIdx Cert.Swiglu

variable (m : (ℓ : Loc nD τ sig) → Buf (Elt Ideal) ℓ) (c : Dev nD)

/-! ## The arrays the kernel is handed -/

/-- The tokens, the weights and the column scales as launched. -/
abbrev a0 : S8x1024x3584.Idx → EReal := m ((c : Thread nD τ).loc main_arg0)
abbrev a1 : S3584x28672.Idx → EReal := m ((c : Thread nD τ).loc main_arg1)
abbrev a2 : S28672.Idx → EReal := m ((c : Thread nD τ).loc main_arg2)

theorem V_main_v0 : V m c main_v0 = shapeCast S8192x3584 (a0 m c) shapeCasts_S8x1024x3584_S8192x3584 := by
  show StableHlo.after hostOps0 _ (Proc.devRef .tc main_v0) = _
  after_results
  rfl

theorem V_main_v1 : V m c main_v1 = shapeCast S1x28672 (a2 m c) shapeCasts_S28672_S1x28672 := by
  show StableHlo.after hostOps0 _ (Proc.devRef .tc main_v1) = _
  after_results
  rfl

theorem V_main_v2 : V m c main_v2 = shapeCast S1x28672 (a2 m c) shapeCasts_S28672_S1x28672 := by
  show StableHlo.after hostOps0 _ (Proc.devRef .tc main_v2) = _
  after_results
  rfl

/-! ## The blocks -/

theorem xrow (r : ℕ) (hr : r < 32) (a : Fin 256) (i : Fin 8192) (hi : i.val = 256 * r + a.val) (k : Fin 3584) :
    iblk m c 0 (pt (28 * r)) (ix2 a k) = X (a0 m c) i k := by
  have hv : (pt (28 * r)).val = 28 * r := Nat.mod_eq_of_lt (by omega)
  rw [iblk0]
  have e : (⟨256 * ((pt (28 * r)).val / 28) + a.val, by rw [hv]; omega⟩ : Fin 8192) = i := Fin.ext (by
    show 256 * ((pt (28 * r)).val / 28) + a.val = i.val
    rw [hv]; omega)
  rw [e]
  exact (congrFun (V_main_v0 m c) _).trans (tokens_apply (a0 m c) _ i k)

theorem pt_at (r j : ℕ) (hr : r < 32) (hj : j < 28) : (pt (28 * r + j)).val % 28 = j := by
  have hv : (pt (28 * r + j)).val = 28 * r + j := Nat.mod_eq_of_lt (by omega)
  rw [hv]; omega

theorem wgate (r j : ℕ) (hr : r < 32) (hj : j < 28) (k : Fin 3584) (n : Fin 512) (N : Fin 28672) (hN : N.val = 512 * j + n.val) :
    iblk m c 1 (pt (28 * r + j)) (ix2 k n) = W (a1 m c) k N := by
  rw [iblk1]
  have e : (⟨512 * ((pt (28 * r + j)).val % 28) + n.val, by rw [pt_at r j hr hj]; omega⟩ : Fin 28672) = N := Fin.ext (by
    show 512 * ((pt (28 * r + j)).val % 28) + n.val = N.val
    rw [pt_at r j hr hj, hN])
  rw [e]
  exact congrFun (V_main_arg1 m c) _

theorem wup (r j : ℕ) (hr : r < 32) (hj : j < 28) (k : Fin 3584) (n : Fin 512) (N : Fin 28672) (hN : N.val = 14336 + 512 * j + n.val) :
    iblk m c 2 (pt (28 * r + j)) (ix2 k n) = W (a1 m c) k N := by
  rw [iblk2]
  have e : (⟨14336 + 512 * ((pt (28 * r + j)).val % 28) + n.val, by rw [pt_at r j hr hj]; omega⟩ : Fin 28672) = N := Fin.ext (by
    show 14336 + 512 * ((pt (28 * r + j)).val % 28) + n.val = N.val
    rw [pt_at r j hr hj, hN])
  rw [e]
  exact congrFun (V_main_arg1 m c) _

theorem sgate (r j : ℕ) (hr : r < 32) (hj : j < 28) (n : Fin 512) (N : Fin 28672) (hN : N.val = 512 * j + n.val) :
    iblk m c 3 (pt (28 * r + j)) (ix2 (0 : Fin 1) n) = S (a2 m c) N := by
  rw [iblk3]
  have e : (⟨512 * ((pt (28 * r + j)).val % 28) + n.val, by rw [pt_at r j hr hj]; omega⟩ : Fin 28672) = N := Fin.ext (by
    show 512 * ((pt (28 * r + j)).val % 28) + n.val = N.val
    rw [pt_at r j hr hj, hN])
  rw [e]
  exact (congrFun (V_main_v1 m c) _).trans (scales_apply (a2 m c) _ _ N)

theorem sup (r j : ℕ) (hr : r < 32) (hj : j < 28) (n : Fin 512) (N : Fin 28672) (hN : N.val = 14336 + 512 * j + n.val) :
    iblk m c 4 (pt (28 * r + j)) (ix2 (0 : Fin 1) n) = S (a2 m c) N := by
  rw [iblk4]
  have e : (⟨14336 + 512 * ((pt (28 * r + j)).val % 28) + n.val, by rw [pt_at r j hr hj]; omega⟩ : Fin 28672) = N := Fin.ext (by
    show 14336 + 512 * ((pt (28 * r + j)).val % 28) + n.val = N.val
    rw [pt_at r j hr hj, hN])
  rw [e]
  exact (congrFun (V_main_v2 m c) _).trans (scales_apply (a2 m c) _ _ N)

/-! ## The rows -/

/-- A token's scale, -/
theorem XS_apply (r : ℕ) (hr : r < 32) (a : Fin 256) (i : Fin 8192) (hi : i.val = 256 * r + a.val) :
    XS m c r (ix2 a (0 : Fin 1)) = qscale (rowmax (X (a0 m c) i)) := by
  have e : (fun k : Fin 3584 => iblk m c 0 (pt (28 * r)) (ix2 a k)) = X (a0 m c) i := funext (xrow m c r hr a i hi)
  refine (pay5_apply (iblk m c 0 (pt (28 * r))) a).trans ?_
  exact congrArg (fun f => qscale (rowmax f)) e

/-- its codes, -/
theorem XC_apply (r : ℕ) (hr : r < 32) (a : Fin 256) (i : Fin 8192) (hi : i.val = 256 * r + a.val) (k : Fin 3584) :
    XC m c r (ix2 a k) = code (X (a0 m c) i k) (rowmax (X (a0 m c) i)) := by
  have e : (fun k : Fin 3584 => iblk m c 0 (pt (28 * r)) (ix2 a k)) = X (a0 m c) i := funext (xrow m c r hr a i hi)
  refine (pay6_apply (iblk m c 0 (pt (28 * r))) a k).trans ?_
  rw [← e]

/-- an element of its hidden row. -/
theorem tile_apply (r j : ℕ) (hr : r < 32) (hj : j < 28) (a : Fin 256) (i : Fin 8192) (hi : i.val = 256 * r + a.val) (n : Fin 512)
    (N : Fin 14336) (hN : N.val = 512 * j + n.val) :
    k0_pay12 (XC m c r) (XS m c r) (iblk m c 1 (pt (28 * r + j))) (iblk m c 2 (pt (28 * r + j))) (iblk m c 3 (pt (28 * r + j)))
      (iblk m c 4 (pt (28 * r + j))) (ix2 a n) = hrow (a0 m c) (a1 m c) (a2 m c) i N := by
  unfold hrow hid
  refine pay12_apply (XC m c r) (XS m c r) _ _ _ _ a n _ _ ?_ ?_
  · unfold lin
    rw [XS_apply m c r hr a i hi, sgate m c r j hr hj n ⟨N.val, by omega⟩ hN]
    simp only [XC_apply m c r hr a i hi, wgate m c r j hr hj _ n ⟨N.val, by omega⟩ hN]
  · unfold lin
    rw [XS_apply m c r hr a i hi, sup m c r j hr hj n ⟨14336 + N.val, by omega⟩ (by show 14336 + N.val = _; omega)]
    simp only [XC_apply m c r hr a i hi, wup m c r j hr hj _ n ⟨14336 + N.val, by omega⟩ (by show 14336 + N.val = _; omega)]

theorem HV_apply (r : ℕ) (hr : r < 32) (a : Fin 256) (i : Fin 8192) (hi : i.val = 256 * r + a.val) (N : Fin 14336) :
    HV m c r (ix2 a N) = hrow (a0 m c) (a1 m c) (a2 m c) i N := by
  have e : HV m c r (ix2 a N) = HT m c r (N.val / 512) (ix2 a (⟨N.val % 512, by omega⟩ : Fin 512)) := by
    unfold HV
    refine congrArg (HT m c r (N.val / 512)) (funext fun ax => ?_)
    match ax with
    | ⟨0, _⟩ => rfl
    | ⟨1, _⟩ => rfl
  rw [e]
  unfold HT
  rw [pay13_apply]
  exact tile_apply m c r (N.val / 512) hr (by omega) a i hi ⟨N.val % 512, by omega⟩ N (by show N.val = 512 * (N.val / 512) + N.val % 512; omega)

theorem AM_zero (r : ℕ) (a : Fin 256) (l : Fin 128) : AM m c r 0 (ix2 a l) = zero := by
  show shapeCast S256x128 (broadcast S256x128 (Scalar.ofBits (F := Ideal) .f32 0x00000000#32)) shapeCasts_S256x128_S256x128 (ix2 a l) = zero
  rw [shapeCast_self]
  rfl

theorem AM_succ (r j : ℕ) (a : Fin 256) (l : Fin 128) : AM m c r (j + 1) (ix2 a l) = max (AM m c r j (ix2 a l)) (AT m c r j (ix2 a l)) := by
  show shapeCast S256x128 (maximumf (AM m c r j) (AT m c r j)) shapeCasts_S256x128_S256x128 (ix2 a l) = _
  rw [shapeCast_self]
  rfl

/-- The lanes' maxima over all tiles: a hidden row's largest absolute value. -/
theorem AM_apply (r : ℕ) (hr : r < 32) (a : Fin 256) (i : Fin 8192) (hi : i.val = 256 * r + a.val) :
    (Finset.univ.fold max ninf fun l : Fin 128 => AM m c r 28 (ix2 a l)) = rowmax (hrow (a0 m c) (a1 m c) (a2 m c) i) := by
  refine lanes_eq (hrow (a0 m c) (a1 m c) (a2 m c) i) (fun j l => AM m c r j (ix2 a l)) (fun l => AM_zero m c r a l) fun j hj l => ?_
  refine (AM_succ m c r j a l).trans (congrArg (max (AM m c r j (ix2 a l))) ?_)
  unfold AT
  rw [pay14_apply]
  refine congrArg (Finset.univ.fold max ninf) (funext fun s => congrArg abs' ?_)
  exact tile_apply m c r j hr hj a i hi _ _ (by
    show (512 * j + (128 * s.val + l.val)) % 14336 = 512 * j + (128 * s.val + l.val)
    exact Nat.mod_eq_of_lt (by omega))

/-! ## The arrays -/

theorem G5_eq : G5 m c = R0 (a0 m c) (a1 m c) (a2 m c) := by
  funext i
  have h0 : (i 0).val < 8192 := (i 0).isLt
  have h1 : (i 1).val < 1 := (i 1).isLt
  have e : loc5 i = ix2 (⟨(i 0).val % 256, by omega⟩ : Fin 256) (0 : Fin 1) := funext fun ax => Fin.ext (by
    match ax with
    | ⟨0, _⟩ => rfl
    | ⟨1, _⟩ => show (i 1).val = 0; omega)
  unfold G5
  rw [e]
  exact pay8_apply _ _ _ (AM_apply m c ((i 0).val / 256) (by omega) _ (i 0) (by
    show (i 0).val = 256 * ((i 0).val / 256) + (i 0).val % 256; omega)) (rowmax_nonneg _)

theorem G6_eq : G6 m c = R1 (a0 m c) (a1 m c) (a2 m c) := by
  funext i
  have h0 : (i 0).val < 8192 := (i 0).isLt
  have hi : (i 0).val = 256 * ((i 0).val / 256) + (⟨(i 0).val % 256, by omega⟩ : Fin 256).val := by
    show (i 0).val = 256 * ((i 0).val / 256) + (i 0).val % 256; omega
  have e : loc6 i = ix2 (⟨(i 0).val % 256, by omega⟩ : Fin 256) (i 1 : Fin 14336) := funext fun ax => Fin.ext (by
    match ax with
    | ⟨0, _⟩ => rfl
    | ⟨1, _⟩ => rfl)
  unfold G6
  rw [e]
  refine (pay2_apply _ _ _ _ _ (AM_apply m c ((i 0).val / 256) (by omega) _ (i 0) hi) (rowmax_nonneg _)).trans ?_
  exact congrArg (fun v => code v (rowmax (hrow (a0 m c) (a1 m c) (a2 m c) (i 0)))) (HV_apply m c ((i 0).val / 256) (by omega) _ (i 0) hi (i 1))

theorem G7_eq : G7 m c = R2 (a0 m c) := by
  funext i
  have h0 : (i 0).val < 8192 := (i 0).isLt
  have e : loc7 i = ix2 (⟨(i 0).val % 256, by omega⟩ : Fin 256) (i 1 : Fin 3584) := funext fun ax => Fin.ext (by
    match ax with
    | ⟨0, _⟩ => rfl
    | ⟨1, _⟩ => rfl)
  unfold G7
  rw [e]
  exact XC_apply m c ((i 0).val / 256) (by omega) _ (i 0) (by
    show (i 0).val = 256 * ((i 0).val / 256) + (i 0).val % 256; omega) _

theorem G8_eq : G8 m c = R3 (a0 m c) := by
  funext i
  have h0 : (i 0).val < 8192 := (i 0).isLt
  have h1 : (i 1).val < 1 := (i 1).isLt
  have e : loc8 i = ix2 (⟨(i 0).val % 256, by omega⟩ : Fin 256) (0 : Fin 1) := funext fun ax => Fin.ext (by
    match ax with
    | ⟨0, _⟩ => rfl
    | ⟨1, _⟩ => show (i 1).val = 0; omega)
  unfold G8
  rw [e]
  exact XS_apply m c ((i 0).val / 256) (by omega) _ (i 0) (by
    show (i 0).val = 256 * ((i 0).val / 256) + (i 0).val % 256; omega)

end Cert.KernelIdeal.Value

end
-- ==== Proof.ReferenceBlocks.lean ====
/- What the reference's one grid point writes back to each result array, and the reference's run with each result array named. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_3) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

end Cert.ReferenceIdeal.Value

end
-- ==== Proof.ReferenceReads.lean ====
/- The reference's payloads read at an index, on extended reals. -/
module

public import proofs.«01_k».proof.Proof.Gen.ReferenceIdeal.Skeleton
public import proofs.«01_k».proof.Proof.Spec
public import proofs.«01_k».proof.Proof.Reads

@[expose] public section

noncomputable section

namespace Cert.ReferenceIdeal.Value

open Cert.ReferenceIdeal Cert.ReferenceIdeal.Gen Idealize.ShloMosaic Idealize.ShloMosaic.ValueIdx Cert.Swiglu

/-- A row's largest absolute value, as the reference takes it. -/
def amax (x : Vec Ideal S8192x3584 .bf16) : FVec Ideal S8192x1 .f32 :=
  shapeCast S8192x1 (multiReduction .maximumf [1] S8192 (absf (k0_pay1 x)) 0xFF800000#32 reduces_S8192x3584_S8192 (.inl rfl) rfl)
    shapeCasts_S8192_S8192x1

theorem pay1_apply (x : Vec Ideal S8192x3584 .bf16) : k0_pay1 x = x := by
  show shapeCast S8192x3584 x shapeCasts_S8192x3584_S8192x3584 = x
  exact shapeCast_self _ _

theorem amax_apply (x : Vec Ideal S8192x3584 .bf16) (r : Fin 8192) : amax x (ix2 r (0 : Fin 1)) = rowmax fun k : Fin 3584 => x (ix2 r k) := by
  refine (shapeCast_a_a1_apply (a := 8192) _ _ r 0).trans ?_
  refine (max_row (a := 8192) (b := 3584) _ _ (.inl rfl) rfl r).trans ?_
  rw [pay1_apply]
  rfl

/-- The rows' exponents, from their largest absolute values: the reference's text, on one column. -/
def vexp (A : FVec Ideal S8192x1 .f32) : FVec Ideal S8192x1 .f32 :=
  select (cmpf .oeq A (broadcast S8192x1 (Scalar.ofBits .f32 0x00000000#32))) (broadcast S8192x1 (Scalar.ofBits .f32 0x00000000#32))
    (minimumf (broadcast S8192x1 (Scalar.ofBits .f32 0x42FC0000#32)) (maximumf (broadcast S8192x1 (Scalar.ofBits .f32 0xC2FC0000#32))
      (addf (floor (divf (log (mulf A (broadcast S8192x1 (Scalar.ofBits .f32 0x3B124925#32))))
        (log (broadcast S8192x1 (Scalar.ofBits .f32 0x40000000#32))))) (broadcast S8192x1 (Scalar.ofBits .f32 0x3F800000#32)))))

theorem vexp_apply (A : FVec Ideal S8192x1 .f32) (i : S8192x1.Idx) : vexp A i = qexp (A i) := rfl

/-- The scales of rows of these exponents, -/
theorem exp2_at (e : FVec Ideal S8192x1 .f32) (i : S8192x1.Idx) : exp2 e i = Ideal.exp2 (e i) := rfl
/-- and their inverses. -/
def vinv (e : FVec Ideal S8192x1 .f32) : FVec Ideal S8192x1 .f32 :=
  exp2 (subf (broadcast S8192x1 (Scalar.ofBits .f32 0x00000000#32)) e)
theorem vinv_apply (e : FVec Ideal S8192x1 .f32) (i : S8192x1.Idx) : vinv e i = Ideal.exp2 (zero - e i) := rfl
theorem qscale_eq (a : EReal) : Ideal.exp2 (qexp a) = qscale a := rfl
theorem qinv_eq (a : EReal) : Ideal.exp2 (zero - qexp a) = qinv a := rfl

theorem pay2_eq (x : Vec Ideal S8192x3584 .bf16) : k0_pay2 x = vexp (amax x) := rfl

theorem pay2_apply (x : Vec Ideal S8192x3584 .bf16) (r : Fin 8192) :
    k0_pay2 x (ix2 r (0 : Fin 1)) = qexp (rowmax fun k : Fin 3584 => x (ix2 r k)) := by
  rw [pay2_eq, vexp_apply, amax_apply]

theorem pay3_eq (x : Vec Ideal S8192x3584 .bf16) : k0_pay3 x = exp2 (k0_pay2 x) := rfl

/-- A token's scale. -/
theorem pay3_apply (x : Vec Ideal S8192x3584 .bf16) (r : Fin 8192) :
    k0_pay3 x (ix2 r (0 : Fin 1)) = qscale (rowmax fun k : Fin 3584 => x (ix2 r k)) := by
  rw [pay3_eq, exp2_at, pay2_apply, qscale_eq]

/-- The tokens' codes: the reference's text. -/
def vcode (x : FVec Ideal S8192x3584 .f32) (e : FVec Ideal S8192x1 .f32) : FVec Ideal S8192x3584 .fp8e4m3 :=
  truncf .fp8e4m3 (minimumf (broadcast S8192x3584 (Scalar.ofBits .f32 0x43E00000#32)) (maximumf
    (broadcast S8192x3584 (Scalar.ofBits .f32 0xC3E00000#32)) (mulf x (broadcastTo S8192x3584 (vinv e) broadcasts_S8192x1_S8192x3584))))
    bitsLt_fp8e4m3_f32

theorem vcode_at (x : FVec Ideal S8192x3584 .f32) (v : FVec Ideal S8192x3584 .f32) (i : S8192x3584.Idx) :
    (truncf .fp8e4m3 (minimumf (broadcast S8192x3584 (Scalar.ofBits .f32 0x43E00000#32)) (maximumf
      (broadcast S8192x3584 (Scalar.ofBits .f32 0xC3E00000#32)) (mulf x v))) bitsLt_fp8e4m3_f32 : FVec Ideal S8192x3584 .fp8e4m3) i
    = min top (max bot (x i * v i)) := rfl

theorem code_eq (v a : EReal) : min top (max bot (v * qinv a)) = code v a := rfl

theorem pay4_eq (x : Vec Ideal S8192x3584 .bf16) : k0_pay4 x = vcode (k0_pay1 x) (k0_pay2 x) := rfl

/-- A token's codes. -/
theorem pay4_apply (x : Vec Ideal S8192x3584 .bf16) (r : Fin 8192) (k : Fin 3584) :
    k0_pay4 x (ix2 r k) = code (x (ix2 r k)) (rowmax fun k : Fin 3584 => x (ix2 r k)) := by
  have hs : broadcastTo S8192x3584 (vinv (k0_pay2 x)) broadcasts_S8192x1_S8192x3584 (ix2 r k) = vinv (k0_pay2 x) (ix2 r (0 : Fin 1)) :=
    spread (a := 8192) (b := 3584) _ _ r k
  rw [pay4_eq]
  unfold vcode
  rw [vcode_at, hs, vinv_apply, pay2_apply, qinv_eq, pay1_apply, code_eq]

theorem mul2_at (a b d : FVec Ideal S8192x28672 .f32) (i : S8192x28672.Idx) : mulf (mulf a b) d i = a i * b i * d i := rfl

theorem matmul_at (x : FVec Ideal S8192x3584 .fp8e4m3) (w : FVec Ideal S3584x28672 .fp8e4m3) (r : Fin 8192) (n : Fin 28672) :
    matmul (F := Ideal) (φ₁ := .fp8e4m3) (φ₂ := .fp8e4m3) dot_S8192x3584_S3584x28672_S8192x28672_1_0_0_1_n_n none x w (constant (F := Ideal) S8192x28672 .f32 0x00000000#32) (ix2 r n)
      = zero + ∑ k : Fin 3584, x (ix2 r k) * w (ix2 k n) :=
  Ideal.matmul_plain_apply (M := 8192) (K := 3584) (N := 28672) none x w (constant (F := Ideal) S8192x28672 .f32 0x00000000#32) r n

theorem lin_eq (x : Fin 3584 → EReal) (W : Fin 3584 → Fin 28672 → EReal) (S : Fin 28672 → EReal) (n : Fin 28672) :
    (zero + ∑ k : Fin 3584, code (x k) (rowmax x) * W k n) * qscale (rowmax x) * S n = lin x W S n := rfl

theorem pay5_eq (x : Vec Ideal S8192x3584 .bf16) (w : Vec Ideal S3584x28672 .fp8e4m3) (s : Vec Ideal S1x28672 .f32) :
    k0_pay5 x w s = mulf (mulf (matmul (F := Ideal) (φ₁ := .fp8e4m3) (φ₂ := .fp8e4m3) dot_S8192x3584_S3584x28672_S8192x28672_1_0_0_1_n_n none (k0_pay4 x) w
        (constant (F := Ideal) S8192x28672 .f32 0x00000000#32)) (broadcastTo S8192x28672 (k0_pay3 x) broadcasts_S8192x1_S8192x28672))
      (broadcastTo S8192x28672 (shapeCast S1x28672 s shapeCasts_S1x28672_S1x28672) broadcasts_S1x28672_S8192x28672) := rfl

/-- An element of the projection. -/
theorem pay5_apply (x : Vec Ideal S8192x3584 .bf16) (w : Vec Ideal S3584x28672 .fp8e4m3) (s : Vec Ideal S1x28672 .f32) (r : Fin 8192)
    (n : Fin 28672) :
    k0_pay5 x w s (ix2 r n) = lin (fun k => x (ix2 r k)) (fun k n => w (ix2 k n)) (fun n => s (ix2 (0 : Fin 1) n)) n := by
  have h1 : broadcastTo S8192x28672 (k0_pay3 x) broadcasts_S8192x1_S8192x28672 (ix2 r n) = k0_pay3 x (ix2 r (0 : Fin 1)) :=
    spread (a := 8192) (b := 28672) _ _ r n
  have h2 : broadcastTo S8192x28672 s broadcasts_S1x28672_S8192x28672 (ix2 r n) = s (ix2 (0 : Fin 1) n) :=
    broadcastTo_1b_ab_apply (a := 8192) (b := 28672) _ _ r n
  rw [pay5_eq, mul2_at, shapeCast_self, h1, h2, matmul_at, pay3_apply]
  simp only [pay4_apply]
  exact lin_eq (fun k => x (ix2 r k)) (fun k n => w (ix2 k n)) (fun n => s (ix2 (0 : Fin 1) n)) n

theorem silu_at (g u : FVec Ideal S8192x14336 .f32) (i : S8192x14336.Idx) :
    mulf (mulf g (logistic g)) u i = g i * Ideal.logistic (g i) * u i := rfl

theorem pay6_eq (y : FVec Ideal S8192x28672 .f32) :
    k0_pay6 y = mulf (mulf (extractStridedSlice S8192x14336 ![0, 0] y slices_S8192x28672_o0_0_S8192x14336)
        (logistic (extractStridedSlice S8192x14336 ![0, 0] y slices_S8192x28672_o0_0_S8192x14336)))
      (extractStridedSlice S8192x14336 ![0, 14336] y slices_S8192x28672_o0_14336_S8192x14336) := rfl

/-- An element of the hidden rows. -/
theorem pay6_apply (y : FVec Ideal S8192x28672 .f32) (r : Fin 8192) (n : Fin 14336) (g u : EReal)
    (hg : y (ix2 r (⟨n.val, by omega⟩ : Fin 28672)) = g) (hu : y (ix2 r (⟨14336 + n.val, by omega⟩ : Fin 28672)) = u) :
    k0_pay6 y (ix2 r n) = g * Ideal.logistic g * u := by
  have h1 : extractStridedSlice S8192x14336 ![0, 0] y slices_S8192x28672_o0_0_S8192x14336 (ix2 r n) = g :=
    (extractStridedSlice_apply _ y _ (ix2 r n) (ix2 r (⟨n.val, by omega⟩ : Fin 28672)) fun a => by
      match a with
      | ⟨0, _⟩ => show r.val = 0 + r.val; omega
      | ⟨1, _⟩ => show n.val = 0 + n.val; omega).trans hg
  have h2 : extractStridedSlice S8192x14336 ![0, 14336] y slices_S8192x28672_o0_14336_S8192x14336 (ix2 r n) = u :=
    (extractStridedSlice_apply _ y _ (ix2 r n) (ix2 r (⟨14336 + n.val, by omega⟩ : Fin 28672)) fun a => by
      match a with
      | ⟨0, _⟩ => show r.val = 0 + r.val; omega
      | ⟨1, _⟩ => show 14336 + n.val = 14336 + n.val; rfl).trans hu
  rw [pay6_eq, silu_at, h1, h2]

/-- A hidden row's largest absolute value. -/
def hmax (y : FVec Ideal S8192x28672 .f32) : FVec Ideal S8192x1 .f32 :=
  shapeCast S8192x1 (multiReduction .maximumf [1] S8192 (absf (k0_pay6 y)) 0xFF800000#32 reduces_S8192x14336_S8192 (.inl rfl) rfl)
    shapeCasts_S8192_S8192x1

theorem hmax_apply (y : FVec Ideal S8192x28672 .f32) (r : Fin 8192) :
    hmax y (ix2 r (0 : Fin 1)) = rowmax fun n : Fin 14336 => k0_pay6 y (ix2 r n) := by
  refine (shapeCast_a_a1_apply (a := 8192) _ _ r 0).trans ?_
  exact max_row (a := 8192) (b := 14336) _ _ (.inl rfl) rfl r

theorem pay7_eq (y : FVec Ideal S8192x28672 .f32) : k0_pay7 y = vexp (hmax y) := rfl

theorem pay7_apply (y : FVec Ideal S8192x28672 .f32) (r : Fin 8192) :
    k0_pay7 y (ix2 r (0 : Fin 1)) = qexp (rowmax fun n : Fin 14336 => k0_pay6 y (ix2 r n)) := by
  rw [pay7_eq, vexp_apply, hmax_apply]

theorem pay8_eq (y : FVec Ideal S8192x28672 .f32) : k0_pay8 y = exp2 (k0_pay7 y) := rfl

/-- A hidden row's scale, -/
theorem pay8_apply (y : FVec Ideal S8192x28672 .f32) (r : Fin 8192) :
    k0_pay8 y (ix2 r (0 : Fin 1)) = qscale (rowmax fun n : Fin 14336 => k0_pay6 y (ix2 r n)) := by
  rw [pay8_eq, exp2_at, pay7_apply, qscale_eq]

/-- The hidden rows' codes: the reference's text. -/
def hcode (x : FVec Ideal S8192x14336 .f32) (e : FVec Ideal S8192x1 .f32) : FVec Ideal S8192x14336 .fp8e4m3 :=
  truncf .fp8e4m3 (minimumf (broadcast S8192x14336 (Scalar.ofBits .f32 0x43E00000#32)) (maximumf
    (broadcast S8192x14336 (Scalar.ofBits .f32 0xC3E00000#32)) (mulf x (broadcastTo S8192x14336 (vinv e) broadcasts_S8192x1_S8192x14336))))
    bitsLt_fp8e4m3_f32

theorem hcode_at (x : FVec Ideal S8192x14336 .f32) (v : FVec Ideal S8192x14336 .f32) (i : S8192x14336.Idx) :
    (truncf .fp8e4m3 (minimumf (broadcast S8192x14336 (Scalar.ofBits .f32 0x43E00000#32)) (maximumf
      (broadcast S8192x14336 (Scalar.ofBits .f32 0xC3E00000#32)) (mulf x v))) bitsLt_fp8e4m3_f32 : FVec Ideal S8192x14336 .fp8e4m3) i
    = min top (max bot (x i * v i)) := rfl

theorem pay9_eq (y : FVec Ideal S8192x28672 .f32) : k0_pay9 y = hcode (k0_pay6 y) (k0_pay7 y) := rfl

/-- and its codes. -/
theorem pay9_apply (y : FVec Ideal S8192x28672 .f32) (r : Fin 8192) (n : Fin 14336) :
    k0_pay9 y (ix2 r n) = code (k0_pay6 y (ix2 r n)) (rowmax fun n : Fin 14336 => k0_pay6 y (ix2 r n)) := by
  have hs : broadcastTo S8192x14336 (vinv (k0_pay7 y)) broadcasts_S8192x1_S8192x14336 (ix2 r n) = vinv (k0_pay7 y) (ix2 r (0 : Fin 1)) :=
    spread (a := 8192) (b := 14336) _ _ r n
  rw [pay9_eq]
  unfold hcode
  rw [hcode_at, hs, vinv_apply, pay7_apply, qinv_eq, code_eq]

end Cert.ReferenceIdeal.Value

end
-- ==== Proof.ReferenceSpec.lean ====
/- The reference's four result arrays are the four results of `Cert.Swiglu`. -/
module

public import proofs.«01_k».proof.Proof.ReferenceBlocks
public import proofs.«01_k».proof.Proof.ReferenceReads

@[expose] public section

noncomputable section

namespace Cert.ReferenceIdeal.Value

open Cert.ReferenceIdeal Cert.ReferenceIdeal.Gen Idealize.ShloMosaic Idealize.ShloMosaic.TcCoe Idealize.SL.Sem Idealize.ShloMosaic.ValueIdx Cert.Swiglu

variable (m : (ℓ : Loc nD τ sig) → Buf (Elt Ideal) ℓ) (ρ : Dev nD → PrngReg) (c : Dev nD)

/-! ## The arrays the reference is handed -/

/-- The tokens, the weights and the column scales as launched. -/
abbrev a0 : S8x1024x3584.Idx → EReal := m ((c : Thread nD τ).loc main_arg0)
abbrev a1 : S3584x28672.Idx → EReal := m ((c : Thread nD τ).loc main_arg1)
abbrev a2 : S28672.Idx → EReal := m ((c : Thread nD τ).loc main_arg2)

/-- The tokens in one axis, -/
def tok : Vec Ideal S8192x3584 .bf16 := shapeCast S8192x3584 (a0 m c) shapeCasts_S8x1024x3584_S8192x3584
/-- the weights, -/
def wts : Vec Ideal S3584x28672 .fp8e4m3 := a1 m c
/-- the column scales as one row. -/
def scl : Vec Ideal S1x28672 .f32 := shapeCast S1x28672 (a2 m c) shapeCasts_S28672_S1x28672

theorem V_main_v0 : V m c main_v0 = tok m c := by
  show StableHlo.after hostOps0 _ (Proc.devRef .tc main_v0) = _
  after_results
  rfl

theorem V_wts : V m c main_arg1 = wts m c := V_main_arg1 m c

theorem V_main_v1 : V m c main_v1 = scl m c := by
  show StableHlo.after hostOps0 _ (Proc.devRef .tc main_v1) = _
  after_results
  rfl

theorem inIdx0 : ∀ t : Fin cfg0.N, win0_0.index t (0 : Fin 2) = 0 ∧ win0_0.index t (1 : Fin 2) = 0 :=
  (by decide +kernel : ∀ t : Fin grid0.N, _)

/-- Input 0 is staged whole. -/
theorem iblk0 (t : Fin cfg0.N) : iblk m c 0 t = tok m c := by
  obtain ⟨e0, e1⟩ := inIdx0 t
  rw [← V_main_v0 m c]
  funext y
  show V m c (Pipeline.arrRef spec0 0) (((cfg0.win 0).blk t).view.emb y) = V m c main_v0 y
  refine congrArg (V m c main_v0) ?_
  funext d; apply Fin.ext
  match d with
  | ⟨0, _⟩ => show win0_0.index t (0 : Fin 2) * 8192 + 1 * (y 0).val = (y 0).val; rw [e0]; omega
  | ⟨1, _⟩ => show win0_0.index t (1 : Fin 2) * 3584 + 1 * (y 1).val = (y 1).val; rw [e1]; omega

theorem inIdx1 : ∀ t : Fin cfg0.N, win0_1.index t (0 : Fin 2) = 0 ∧ win0_1.index t (1 : Fin 2) = 0 :=
  (by decide +kernel : ∀ t : Fin grid0.N, _)

/-- Input 1 is staged whole. -/
theorem iblk1 (t : Fin cfg0.N) : iblk m c 1 t = wts m c := by
  obtain ⟨e0, e1⟩ := inIdx1 t
  rw [← V_wts m c]
  funext y
  show V m c (Pipeline.arrRef spec0 1) (((cfg0.win 1).blk t).view.emb y) = V m c main_arg1 y
  refine congrArg (V m c main_arg1) ?_
  funext d; apply Fin.ext
  match d with
  | ⟨0, _⟩ => show win0_1.index t (0 : Fin 2) * 3584 + 1 * (y 0).val = (y 0).val; rw [e0]; omega
  | ⟨1, _⟩ => show win0_1.index t (1 : Fin 2) * 28672 + 1 * (y 1).val = (y 1).val; rw [e1]; omega

theorem inIdx2 : ∀ t : Fin cfg0.N, win0_2.index t (0 : Fin 2) = 0 ∧ win0_2.index t (1 : Fin 2) = 0 :=
  (by decide +kernel : ∀ t : Fin grid0.N, _)

/-- Input 2 is staged whole. -/
theorem iblk2 (t : Fin cfg0.N) : iblk m c 2 t = scl m c := by
  obtain ⟨e0, e1⟩ := inIdx2 t
  rw [← V_main_v1 m c]
  funext y
  show V m c (Pipeline.arrRef spec0 2) (((cfg0.win 2).blk t).view.emb y) = V m c main_v1 y
  refine congrArg (V m c main_v1) ?_
  funext d; apply Fin.ext
  match d with
  | ⟨0, _⟩ => show win0_2.index t (0 : Fin 2) * 1 + 1 * (y 0).val = (y 0).val; rw [e0]; omega
  | ⟨1, _⟩ => show win0_2.index t (1 : Fin 2) * 28672 + 1 * (y 1).val = (y 1).val; rw [e1]; omega

/-! ## The rows -/

theorem tok_apply (i : Fin 8192) (k : Fin 3584) : tok m c (ix2 i k) = X (a0 m c) i k := tokens_apply (a0 m c) _ i k
theorem scl_apply (n : Fin 28672) : scl m c (ix2 (0 : Fin 1) n) = S (a2 m c) n := scales_apply (a2 m c) _ 0 n

theorem tok_row (i : Fin 8192) : (fun k : Fin 3584 => tok m c (ix2 i k)) = X (a0 m c) i := funext (tok_apply m c i)

/-- The projection. -/
def prj : FVec Ideal S8192x28672 .f32 := Cert.ReferenceIdeal.Gen.k0_pay5 (tok m c) (wts m c) (scl m c)

theorem prj_apply (i : Fin 8192) (n : Fin 28672) : prj m c (ix2 i n) = lin (X (a0 m c) i) (W (a1 m c)) (S (a2 m c)) n := by
  refine (pay5_apply (tok m c) (wts m c) (scl m c) i n).trans ?_
  rw [tok_row, show (fun n : Fin 28672 => scl m c (ix2 (0 : Fin 1) n)) = S (a2 m c) from funext (scl_apply m c)]
  rfl

/-- The hidden rows. -/
theorem hid_apply (i : Fin 8192) (n : Fin 14336) : k0_pay6 (prj m c) (ix2 i n) = hrow (a0 m c) (a1 m c) (a2 m c) i n := by
  unfold hrow hid
  exact pay6_apply (prj m c) i n _ _ (prj_apply m c i _) (prj_apply m c i _)

theorem hid_row (i : Fin 8192) : (fun n : Fin 14336 => k0_pay6 (prj m c) (ix2 i n)) = hrow (a0 m c) (a1 m c) (a2 m c) i :=
  funext (hid_apply m c i)

theorem col (i : S8192x1.Idx) : i = ix2 (i 0 : Fin 8192) (0 : Fin 1) := funext fun ax => Fin.ext (by
  have h1 : (i 1).val < 1 := (i 1).isLt
  match ax with
  | ⟨0, _⟩ => rfl
  | ⟨1, _⟩ => show (i 1).val = 0; omega)

theorem pay8_eq_R0 : k0_pay8 (prj m c) = R0 (a0 m c) (a1 m c) (a2 m c) := by
  funext i
  refine (congrArg (k0_pay8 (prj m c)) (col i)).trans ((pay8_apply (prj m c) (i 0)).trans ?_)
  exact congrArg (fun f => qscale (rowmax f)) (hid_row m c (i 0))

theorem pay9_eq_R1 : k0_pay9 (prj m c) = R1 (a0 m c) (a1 m c) (a2 m c) := by
  funext i
  refine (congrArg (k0_pay9 (prj m c)) (eq_ix2 i)).trans ((pay9_apply (prj m c) (i 0) (i 1)).trans ?_)
  exact congrArg (fun f : Fin 14336 → EReal => code (f (i 1)) (rowmax f)) (hid_row m c (i 0))

theorem pay4_eq_R2 : k0_pay4 (tok m c) = R2 (a0 m c) := by
  funext i
  refine (congrArg (k0_pay4 (tok m c)) (eq_ix2 i)).trans ((pay4_apply (tok m c) (i 0) (i 1)).trans ?_)
  exact congrArg (fun f : Fin 3584 → EReal => code (f (i 1)) (rowmax f)) (tok_row m c (i 0))

theorem pay3_eq_R3 : k0_pay3 (tok m c) = R3 (a0 m c) := by
  funext i
  refine (congrArg (k0_pay3 (tok m c)) (col i)).trans ((pay3_apply (tok m c) (i 0)).trans ?_)
  exact congrArg (fun f => qscale (rowmax f)) (tok_row m c (i 0))

/-! ## What the body leaves -/

theorem hz : (![0, 0] : Fin 2 → ℕ) = fun _ => 0 := funext fun a => by
  match a with
  | ⟨0, _⟩ => rfl
  | ⟨1, _⟩ => rfl

theorem proj_eq (x : Vec Ideal S8192x3584 .bf16) (w : Vec Ideal S3584x28672 .fp8e4m3) (s : Vec Ideal S1x28672 .f32) :
    k0_pay10 x w s = k0_pay5 x w s := by
  unfold k0_pay10
  rw [View.ld_unit_zero (S := S8192x3584) hz, View.ld_unit_zero (S := S3584x28672) hz, View.ld_unit_zero (S := S1x28672) hz]

/-! ## Output 0 -/

theorem left3 (t : Fin cfg0.N) : out0_3 (iblk m c 0 t) (iblk m c 1 t) (iblk m c 2 t) = R0 (a0 m c) (a1 m c) (a2 m c) := by
  rw [iblk0, iblk1, iblk2, ← pay8_eq_R0]
  unfold out0_3
  rw [proj_eq]
  exact View.canon_unit_zero (S := S8192x1) hz _ _

theorem idx3 : ∀ t : Fin cfg0.N, win0_3.index t (0 : Fin 2) = 0 ∧ win0_3.index t (1 : Fin 2) = 0 :=
  (by decide +kernel : ∀ t : Fin grid0.N, _)

theorem place3 (t : Fin cfg0.N) (f : S8192x1.Idx → EReal) :
    (cfg0.win 3).cut (grid0.coords t) (f : Vec Ideal S8192x1 .f32) = ((cfg0.win 3).blk t).view.read (Elt Ideal) f := by
  obtain ⟨e0, e1⟩ := idx3 t
  funext y
  show f ((cfg0.win 3).xinj (grid0.coords t) y) = f (((cfg0.win 3).blk t).view.emb y)
  refine congrArg f ?_
  funext a; apply Fin.ext
  match a with
  | ⟨0, _⟩ => show (y 0).val = win0_3.index t (0 : Fin 2) * 8192 + 1 * (y 0).val; rw [e0]; omega
  | ⟨1, _⟩ => show (y 1).val = win0_3.index t (1 : Fin 2) * 1 + 1 * (y 1).val; rw [e1]; omega

theorem mem_blk3 (t : Fin cfg0.N) (i : S8192x1.Idx) :
    i ∈ ((cfg0.win 3).blk t).view.set ↔ ∀ a : Fin 2, win0_3.index t a * S8192x1.size a ≤ (i a).val ∧ (i a).val < win0_3.index t a * S8192x1.size a + S8192x1.size a := by
  show i ∈ ((View.whole main_v2_0).slice (win0_3.rect t)).set ↔ _
  rw [View.set_slice_whole, Rect.mem_set_unit]; exact Iff.rfl

theorem final3 : (dats m 0 c).arrAt 3 cfg0.N = R0 (a0 m c) (a1 m c) (a2 m c) :=
  (dats m 0 c).arrAt_eq_of_cover 3 _ (fun t _ => by rw [flushed3, left3]; exact place3 t _) (fun i => by
    have h0 : (i 0).val < 8192 := (i 0).isLt
    have h1 : (i 1).val < 1 := (i 1).isLt
    have ht : 0 < cfg0.N := by decide +kernel
    obtain ⟨e0, e1⟩ := idx3 ⟨0, ht⟩
    refine ⟨⟨0, ht⟩, flush0_3 _, ?_⟩
    refine (mem_blk3 _ i).2 ?_
    intro a
    match a with
    | ⟨0, _⟩ => show win0_3.index _ (0 : Fin 2) * 8192 ≤ (i 0).val ∧ (i 0).val < win0_3.index _ (0 : Fin 2) * 8192 + 8192; omega
    | ⟨1, _⟩ => show win0_3.index _ (1 : Fin 2) * 1 ≤ (i 1).val ∧ (i 1).val < win0_3.index _ (1 : Fin 2) * 1 + 1; omega)

/-! ## Output 1 -/

theorem left4 (t : Fin cfg0.N) : out0_4 (iblk m c 0 t) (iblk m c 1 t) (iblk m c 2 t) = R1 (a0 m c) (a1 m c) (a2 m c) := by
  rw [iblk0, iblk1, iblk2, ← pay9_eq_R1]
  unfold out0_4
  rw [proj_eq]
  exact View.canon_unit_zero (S := S8192x14336) hz _ _

theorem idx4 : ∀ t : Fin cfg0.N, win0_4.index t (0 : Fin 2) = 0 ∧ win0_4.index t (1 : Fin 2) = 0 :=
  (by decide +kernel : ∀ t : Fin grid0.N, _)

theorem place4 (t : Fin cfg0.N) (f : S8192x14336.Idx → EReal) :
    (cfg0.win 4).cut (grid0.coords t) (f : Vec Ideal S8192x14336 .fp8e4m3) = ((cfg0.win 4).blk t).view.read (Elt Ideal) f := by
  obtain ⟨e0, e1⟩ := idx4 t
  funext y
  show f ((cfg0.win 4).xinj (grid0.coords t) y) = f (((cfg0.win 4).blk t).view.emb y)
  refine congrArg f ?_
  funext a; apply Fin.ext
  match a with
  | ⟨0, _⟩ => show (y 0).val = win0_4.index t (0 : Fin 2) * 8192 + 1 * (y 0).val; rw [e0]; omega
  | ⟨1, _⟩ => show (y 1).val = win0_4.index t (1 : Fin 2) * 14336 + 1 * (y 1).val; rw [e1]; omega

theorem mem_blk4 (t : Fin cfg0.N) (i : S8192x14336.Idx) :
    i ∈ ((cfg0.win 4).blk t).view.set ↔ ∀ a : Fin 2, win0_4.index t a * S8192x14336.size a ≤ (i a).val ∧ (i a).val < win0_4.index t a * S8192x14336.size a + S8192x14336.size a := by
  show i ∈ ((View.whole main_v2_1).slice (win0_4.rect t)).set ↔ _
  rw [View.set_slice_whole, Rect.mem_set_unit]; exact Iff.rfl

theorem final4 : (dats m 0 c).arrAt 4 cfg0.N = R1 (a0 m c) (a1 m c) (a2 m c) :=
  (dats m 0 c).arrAt_eq_of_cover 4 _ (fun t _ => by rw [flushed4, left4]; exact place4 t _) (fun i => by
    have h0 : (i 0).val < 8192 := (i 0).isLt
    have h1 : (i 1).val < 14336 := (i 1).isLt
    have ht : 0 < cfg0.N := by decide +kernel
    obtain ⟨e0, e1⟩ := idx4 ⟨0, ht⟩
    refine ⟨⟨0, ht⟩, flush0_4 _, ?_⟩
    refine (mem_blk4 _ i).2 ?_
    intro a
    match a with
    | ⟨0, _⟩ => show win0_4.index _ (0 : Fin 2) * 8192 ≤ (i 0).val ∧ (i 0).val < win0_4.index _ (0 : Fin 2) * 8192 + 8192; omega
    | ⟨1, _⟩ => show win0_4.index _ (1 : Fin 2) * 14336 ≤ (i 1).val ∧ (i 1).val < win0_4.index _ (1 : Fin 2) * 14336 + 14336; omega)

/-! ## Output 2 -/

theorem left5 (t : Fin cfg0.N) : out0_5 (iblk m c 0 t) (iblk m c 1 t) (iblk m c 2 t) = R2 (a0 m c) := by
  rw [iblk0, iblk1, iblk2, ← pay4_eq_R2]
  unfold out0_5
  rw [View.ld_unit_zero (S := S8192x3584) hz]
  exact View.canon_unit_zero (S := S8192x3584) hz _ _

theorem idx5 : ∀ t : Fin cfg0.N, win0_5.index t (0 : Fin 2) = 0 ∧ win0_5.index t (1 : Fin 2) = 0 :=
  (by decide +kernel : ∀ t : Fin grid0.N, _)

theorem place5 (t : Fin cfg0.N) (f : S8192x3584.Idx → EReal) :
    (cfg0.win 5).cut (grid0.coords t) (f : Vec Ideal S8192x3584 .fp8e4m3) = ((cfg0.win 5).blk t).view.read (Elt Ideal) f := by
  obtain ⟨e0, e1⟩ := idx5 t
  funext y
  show f ((cfg0.win 5).xinj (grid0.coords t) y) = f (((cfg0.win 5).blk t).view.emb y)
  refine congrArg f ?_
  funext a; apply Fin.ext
  match a with
  | ⟨0, _⟩ => show (y 0).val = win0_5.index t (0 : Fin 2) * 8192 + 1 * (y 0).val; rw [e0]; omega
  | ⟨1, _⟩ => show (y 1).val = win0_5.index t (1 : Fin 2) * 3584 + 1 * (y 1).val; rw [e1]; omega

theorem mem_blk5 (t : Fin cfg0.N) (i : S8192x3584.Idx) :
    i ∈ ((cfg0.win 5).blk t).view.set ↔ ∀ a : Fin 2, win0_5.index t a * S8192x3584.size a ≤ (i a).val ∧ (i a).val < win0_5.index t a * S8192x3584.size a + S8192x3584.size a := by
  show i ∈ ((View.whole main_v2_2).slice (win0_5.rect t)).set ↔ _
  rw [View.set_slice_whole, Rect.mem_set_unit]; exact Iff.rfl

theorem final5 : (dats m 0 c).arrAt 5 cfg0.N = R2 (a0 m c) :=
  (dats m 0 c).arrAt_eq_of_cover 5 _ (fun t _ => by rw [flushed5, left5]; exact place5 t _) (fun i => by
    have h0 : (i 0).val < 8192 := (i 0).isLt
    have h1 : (i 1).val < 3584 := (i 1).isLt
    have ht : 0 < cfg0.N := by decide +kernel
    obtain ⟨e0, e1⟩ := idx5 ⟨0, ht⟩
    refine ⟨⟨0, ht⟩, flush0_5 _, ?_⟩
    refine (mem_blk5 _ i).2 ?_
    intro a
    match a with
    | ⟨0, _⟩ => show win0_5.index _ (0 : Fin 2) * 8192 ≤ (i 0).val ∧ (i 0).val < win0_5.index _ (0 : Fin 2) * 8192 + 8192; omega
    | ⟨1, _⟩ => show win0_5.index _ (1 : Fin 2) * 3584 ≤ (i 1).val ∧ (i 1).val < win0_5.index _ (1 : Fin 2) * 3584 + 3584; omega)

/-! ## Output 3 -/

theorem left6 (t : Fin cfg0.N) : out0_6 (iblk m c 0 t) (iblk m c 1 t) (iblk m c 2 t) = R3 (a0 m c) := by
  rw [iblk0, iblk1, iblk2, ← pay3_eq_R3]
  unfold out0_6
  rw [View.ld_unit_zero (S := S8192x3584) hz]
  exact View.canon_unit_zero (S := S8192x1) hz _ _

theorem idx6 : ∀ t : Fin cfg0.N, win0_6.index t (0 : Fin 2) = 0 ∧ win0_6.index t (1 : Fin 2) = 0 :=
  (by decide +kernel : ∀ t : Fin grid0.N, _)

theorem place6 (t : Fin cfg0.N) (f : S8192x1.Idx → EReal) :
    (cfg0.win 6).cut (grid0.coords t) (f : Vec Ideal S8192x1 .f32) = ((cfg0.win 6).blk t).view.read (Elt Ideal) f := by
  obtain ⟨e0, e1⟩ := idx6 t
  funext y
  show f ((cfg0.win 6).xinj (grid0.coords t) y) = f (((cfg0.win 6).blk t).view.emb y)
  refine congrArg f ?_
  funext a; apply Fin.ext
  match a with
  | ⟨0, _⟩ => show (y 0).val = win0_6.index t (0 : Fin 2) * 8192 + 1 * (y 0).val; rw [e0]; omega
  | ⟨1, _⟩ => show (y 1).val = win0_6.index t (1 : Fin 2) * 1 + 1 * (y 1).val; rw [e1]; omega

theorem mem_blk6 (t : Fin cfg0.N) (i : S8192x1.Idx) :
    i ∈ ((cfg0.win 6).blk t).view.set ↔ ∀ a : Fin 2, win0_6.index t a * S8192x1.size a ≤ (i a).val ∧ (i a).val < win0_6.index t a * S8192x1.size a + S8192x1.size a := by
  show i ∈ ((View.whole main_v2_3).slice (win0_6.rect t)).set ↔ _
  rw [View.set_slice_whole, Rect.mem_set_unit]; exact Iff.rfl

theorem final6 : (dats m 0 c).arrAt 6 cfg0.N = R3 (a0 m c) :=
  (dats m 0 c).arrAt_eq_of_cover 6 _ (fun t _ => by rw [flushed6, left6]; exact place6 t _) (fun i => by
    have h0 : (i 0).val < 8192 := (i 0).isLt
    have h1 : (i 1).val < 1 := (i 1).isLt
    have ht : 0 < cfg0.N := by decide +kernel
    obtain ⟨e0, e1⟩ := idx6 ⟨0, ht⟩
    refine ⟨⟨0, ht⟩, flush0_6 _, ?_⟩
    refine (mem_blk6 _ i).2 ?_
    intro a
    match a with
    | ⟨0, _⟩ => show win0_6.index _ (0 : Fin 2) * 8192 ≤ (i 0).val ∧ (i 0).val < win0_6.index _ (0 : Fin 2) * 8192 + 8192; omega
    | ⟨1, _⟩ => show win0_6.index _ (1 : Fin 2) * 1 ≤ (i 1).val ∧ (i 1).val < win0_6.index _ (1 : Fin 2) * 1 + 1; omega)

/-- The reference's run: its result arrays are the four results, its arguments unchanged. -/
theorem run : θ_run defs (onTc (τ := τ) (main (F := Ideal))) ⟨m, fun _ => 0, ρ⟩ fun r => ∀ c : Dev nD,
      r.2.mem ((c : Thread nD τ).loc main_v2_0) = R0 (a0 m c) (a1 m c) (a2 m c)
      ∧ r.2.mem ((c : Thread nD τ).loc main_v2_1) = R1 (a0 m c) (a1 m c) (a2 m c)
      ∧ r.2.mem ((c : Thread nD τ).loc main_v2_2) = R2 (a0 m c)
      ∧ r.2.mem ((c : Thread nD τ).loc main_v2_3) = R3 (a0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c),
    (h c).2.2.2.1.trans (final6 m c), (h c).2.2.2.2⟩) (run_blocks m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.KernelSpec
public import proofs.«01_k».proof.Proof.ReferenceSpec
public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same four results: both end with
    `Cert.Swiglu.R0` … `R3` of the arguments. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Value.G5 m c, fun c => Cert.KernelIdeal.Value.G6 m c, fun c => Cert.KernelIdeal.Value.G7 m c,
    fun c => Cert.KernelIdeal.Value.G8 m c, Cert.KernelIdeal.Value.run m ρ,
    (θ_run _ _ _).mono (fun r h c => by
      obtain ⟨h0, h1, h2, h3, hargs⟩ := h c
      obtain ⟨g0, g1, g2⟩ := hag c
      have e0 : Cert.ReferenceIdeal.Value.a0 m' c = Cert.KernelIdeal.Value.a0 m c := g0
      have e1 : Cert.ReferenceIdeal.Value.a1 m' c = Cert.KernelIdeal.Value.a1 m c := g1
      have e2 : Cert.ReferenceIdeal.Value.a2 m' c = Cert.KernelIdeal.Value.a2 m c := g2
      rw [e0, e1, e2] at h0 h1
      rw [e0] at h2 h3
      exact ⟨h0.trans (Cert.KernelIdeal.Value.G5_eq m c).symm, h1.trans (Cert.KernelIdeal.Value.G6_eq m c).symm,
        h2.trans (Cert.KernelIdeal.Value.G7_eq m c).symm, h3.trans (Cert.KernelIdeal.Value.G8_eq m c).symm, hargs⟩)
      (Cert.ReferenceIdeal.Value.run m' ρ')⟩

/-- All five claims: the three frames, the idealization, and the equality of results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
